-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_right_branching [hPre_right_branching : Cert.Pre_right_branching.Facts] (m : (ℓ : Loc Cert.KernelIdeal.nD Cert.KernelIdeal.τ Cert.KernelIdeal.sig) → Buf (Elt Ideal) ℓ) : Prop :=
  ∀ c : Dev Cert.KernelIdeal.nD,
    (Cert.Pre_right_branching.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_right_branching [hPre_right_branching : Cert.Pre_right_branching.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_right_branching.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_right_branching [hKernelIdeal : Cert.KernelIdeal.Facts] [hPre_right_branching : Cert.Pre_right_branching.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_right_branching m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_right_branching [hReferenceIdeal : Cert.ReferenceIdeal.Facts] [hPre_right_branching : Cert.Pre_right_branching.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_right_branching m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_right_branching [hKernelIdeal : Cert.KernelIdeal.Facts] [hReferenceIdeal : Cert.ReferenceIdeal.Facts] [hPre_right_branching : Cert.Pre_right_branching.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_right_branching m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_right_branching : Cert.Pre_right_branching.Facts),
    quiescent_Kernel (hKernel := hKernel)
    ∧ quiescent_KernelIdeal (hKernelIdeal := hKernelIdeal)
    ∧ quiescent_KernelIdeal_pre_right_branching (hKernelIdeal := hKernelIdeal) (hPre_right_branching := hPre_right_branching)
    ∧ quiescent_ReferenceIdeal (hReferenceIdeal := hReferenceIdeal)
    ∧ quiescent_ReferenceIdeal_pre_right_branching (hReferenceIdeal := hReferenceIdeal) (hPre_right_branching := hPre_right_branching)
    ∧ preserves_Kernel_KernelIdeal
    ∧ algebraic_KernelIdeal_ReferenceIdeal_pre_right_branching (hKernelIdeal := hKernelIdeal) (hReferenceIdeal := hReferenceIdeal) (hPre_right_branching := hPre_right_branching)
-- ==== Pre_right_branching.lean ====
abbrev S512x8x256 : Shape := ⟨3, ![512, 8, 256]⟩
abbrev S512x8 : Shape := ⟨2, ![512, 8]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S512x8 : S_.BroadcastsInDim S512x8 (![] : Fin 0 → Fin S512x8.rank)

variable [Facts]

def fn_where {F : FTy → Type} [FloatOps F] (arg0 : IVec S512x8 1) (arg1 : IVec S_ 32) (arg2 : IVec S512x8 32) : IVec S512x8 32 :=
  let v0 : IVec S_ 32 := id arg1
  let v1 : IVec S512x8 32 := broadcastInDim S512x8 ![] bcast_S_S512x8 v0
  let v2 : IVec S512x8 32 := select arg0 v1 arg2
  v2

def fn {F : FTy → Type} [FloatOps F] (main_arg0 : FVec F S512x8x256 .f32) (main_arg1 : IVec S512x8 32) (main_arg2 : IVec S512x8 1) (main_arg3 : FVec F S768x256 .f32) (main_arg4 : FVec F S768 .f32) (main_arg5 : FVec F S768x256 .f32) (main_arg6 : FVec F S768x256 .f32) (main_arg7 : FVec F S256x256 .f32) (main_arg8 : FVec F S256 .f32) (main_arg9 : FVec F S256x256 .f32) (main_arg10 : FVec F S256x256 .f32) : IVec S512x8 1 :=
  let main_v0 : IVec S512x8 32 := iotaInDim S512x8 32 0
  let main_c : IVec S_ 32 := constantI S_ 32 511#32
  let main_v1 : IVec S512x8 32 := broadcastInDim S512x8 ![] bcast_S_S512x8 main_c
  let main_v2 : IVec S512x8 1 := cmpi .eq main_v0 main_v1
  let main_c_0 : IVec S_ 32 := constantI S_ 32 1#32
  let main_v3 : IVec S512x8 32 := broadcastInDim S512x8 ![] bcast_S_S512x8 main_c_0
  let main_v4 : IVec S512x8 32 := addi main_v0 main_v3
  let main_c_1 : IVec S_ 32 := constantI S_ 32 4294967295#32
  let main_v5 : IVec S512x8 32 := fn_where (F := F) main_v2 main_c_1 main_v4
  let main_c_2 : IVec S_ 32 := constantI S_ 32 1#32
  let main_v6 : IVec S512x8 32 := broadcastInDim S512x8 ![] bcast_S_S512x8 main_c_2
  let main_v7 : IVec S512x8 32 := andi main_v0 main_v6
  let main_c_3 : IVec S_ 32 := constantI S_ 32 0#32
  let main_v8 : IVec S512x8 32 := broadcastInDim S512x8 ![] bcast_S_S512x8 main_c_3
  let main_v9 : IVec S512x8 1 := cmpi .eq main_v7 main_v8
  let main_v10 : IVec S512x8 1 := cmpi .eq main_arg1 main_v5
  let main_v11 : IVec S512x8 1 := cmpi .eq main_arg2 main_v9
  let main_v12 : IVec S512x8 1 := andi main_v10 main_v11
  main_v12
-- ==== Kernel.lean ====
abbrev S512x8x256 : Shape := ⟨3, ![512, 8, 256]⟩
abbrev S512x8 : Shape := ⟨2, ![512, 8]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4096x256 : Shape := ⟨2, ![4096, 256]⟩
abbrev S256x768 : Shape := ⟨2, ![256, 768]⟩
abbrev S1x768 : Shape := ⟨2, ![1, 768]⟩
abbrev S1x256 : Shape := ⟨2, ![1, 256]⟩
abbrev S8x512x256 : Shape := ⟨3, ![8, 512, 256]⟩
abbrev S4096x768 : Shape := ⟨2, ![4096, 768]⟩
abbrev S8x256 : Shape := ⟨2, ![8, 256]⟩
abbrev S8x768 : Shape := ⟨2, ![8, 768]⟩
abbrev S8x512 : Shape := ⟨2, ![8, 512]⟩
abbrev S256x512 : Shape := ⟨2, ![256, 512]⟩
abbrev S8x1x256 : Shape := ⟨3, ![8, 1, 256]⟩
abbrev S_ : Shape := ⟨0, ![]⟩

abbrev nBuf : Space → Nat
  | .hbm => 27
  | .vmem => 12
  | .smem => 0
  | _ => 0

abbrev bufTy : (tb : Table) → Fin (tcTables nBuf tb) → BufTy
  | .hbm, ⟨0, _⟩ => ⟨S512x8x256, .f32⟩
  | .hbm, ⟨1, _⟩ => ⟨S512x8, .i32⟩
  | .hbm, ⟨2, _⟩ => ⟨S512x8, .i1⟩
  | .hbm, ⟨3, _⟩ => ⟨S768x256, .f32⟩
  | .hbm, ⟨4, _⟩ => ⟨S768, .f32⟩
  | .hbm, ⟨5, _⟩ => ⟨S768x256, .f32⟩
  | .hbm, ⟨6, _⟩ => ⟨S768x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S4096x256, .f32⟩
  | .hbm, ⟨12, _⟩ => ⟨S256x768, .f32⟩
  | .hbm, ⟨13, _⟩ => ⟨S256x768, .f32⟩
  | .hbm, ⟨14, _⟩ => ⟨S256x768, .bf16⟩
  | .hbm, ⟨15, _⟩ => ⟨S256x768, .f32⟩
  | .hbm, ⟨16, _⟩ => ⟨S256x768, .bf16⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S256x256, .f32⟩
  | .hbm, ⟨21, _⟩ => ⟨S256x256, .bf16⟩
  | .hbm, ⟨22, _⟩ => ⟨S1x768, .f32⟩
  | .hbm, ⟨23, _⟩ => ⟨S1x256, .f32⟩
  | .hbm, ⟨24, _⟩ => ⟨S8x512x256, .f32⟩
  | .hbm, ⟨25, _⟩ => ⟨S_, .f32⟩
  | .hbm, ⟨26, _⟩ => ⟨S8x256, .f32⟩
  | .local _ .vmem, ⟨0, _⟩ => ⟨S4096x256, .f32⟩
  | .local _ .vmem, ⟨1, _⟩ => ⟨S256x768, .f32⟩
  | .local _ .vmem, ⟨2, _⟩ => ⟨S256x768, .bf16⟩
  | .local _ .vmem, ⟨3, _⟩ => ⟨S256x768, .bf16⟩
  | .local _ .vmem, ⟨4, _⟩ => ⟨S256x256, .f32⟩
  | .local _ .vmem, ⟨5, _⟩ => ⟨S256x256, .bf16⟩
  | .local _ .vmem, ⟨6, _⟩ => ⟨S256x256, .bf16⟩
  | .local _ .vmem, ⟨7, _⟩ => ⟨S1x768, .f32⟩
  | .local _ .vmem, ⟨8, _⟩ => ⟨S1x256, .f32⟩
  | .local _ .vmem, ⟨9, _⟩ => ⟨S8x512x256, .f32⟩
  | .local _ .vmem, ⟨10, _⟩ => ⟨S4096x768, .f32⟩
  | .local _ .vmem, ⟨11, _⟩ => ⟨S4096x256, .f32⟩
  | _, _ => ⟨S512x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v23 : BitVec 32 := Scalar.addi c0_i32 c256_i32
  let c1_i32 : BitVec 32 := 1#32
  ⟨c0_i32, v23, c1_i32⟩
def k0_off1 (k0_t1 : Fin k0_t1_loop.trips) : Fin 2 → Nat :=
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let c8_i32 : BitVec 32 := 8#32
  let v31 : BitVec 32 := Scalar.muli v26 c8_i32
  let v32 : Index := Scalar.indexCast v31
  let c0_20 : Index := 0#32
  ![v32.toNat, 0]
def k0_off2 (k0_t1 : Fin k0_t1_loop.trips) : Fin 2 → Nat :=
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let c8_i32_23 : BitVec 32 := 8#32
  let v47 : BitVec 32 := Scalar.muli v26 c8_i32_23
  let v48 : Index := Scalar.indexCast v47
  let c0_24 : Index := 0#32
  ![v48.toNat, 0]
def k0_off3 (k0_t1 : Fin k0_t1_loop.trips) : Fin 3 → Nat :=
  let c0_26 : Index := 0#32
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let v59 : Index := Scalar.indexCast v26
  let c0_27 : Index := 0#32
  ![0, v59.toNat, 0]
def k0_off4 (k0_t1 : Fin k0_t1_loop.trips) : Fin 2 → Nat :=
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let c1_i32_28 : BitVec 32 := 1#32
  let v61 : BitVec 32 := Scalar.subi v26 c1_i32_28
  let c8_i32_33 : BitVec 32 := 8#32
  let v66 : BitVec 32 := Scalar.muli v61 c8_i32_33
  let v67 : Index := Scalar.indexCast v66
  let c0_34 : Index := 0#32
  ![v67.toNat, 0]
def k0_off5 (k0_t1 : Fin k0_t1_loop.trips) : Fin 2 → Nat :=
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let c1_i32_28 : BitVec 32 := 1#32
  let v61 : BitVec 32 := Scalar.subi v26 c1_i32_28
  let c8_i32_37 : BitVec 32 := 8#32
  let v82 : BitVec 32 := Scalar.muli v61 c8_i32_37
  let v83 : Index := Scalar.indexCast v82
  let c0_38 : Index := 0#32
  ![v83.toNat, 0]
def k0_off6 (k0_t1 : Fin k0_t1_loop.trips) : Fin 3 → Nat :=
  let c0_40 : Index := 0#32
  let c511_i32 : BitVec 32 := 511#32
  let c2_i32 : BitVec 32 := 2#32
  let c0_i32 : BitVec 32 := 0#32
  let c1_i32 : BitVec 32 := 1#32
  let arg12 : BitVec 32 := Scf.iv c0_i32 c1_i32 k0_t1
  let v25 : BitVec 32 := Scalar.muli c2_i32 arg12
  let v26 : BitVec 32 := Scalar.subi c511_i32 v25
  let c1_i32_28 : BitVec 32 := 1#32
  let v61 : BitVec 32 := Scalar.subi v26 c1_i32_28
  let v94 : Index := Scalar.indexCast v61
  let c0_41 : Index := 0#32
  ![0, v94.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S512x8x256 : Shape := ⟨3, ![512, 8, 256]⟩
abbrev S512x8 : Shape := ⟨2, ![512, 8]⟩
abbrev S768x256 : Shape := ⟨2, ![768, 256]⟩
abbrev S768 : Shape := ⟨1, ![768]⟩
abbrev S256x256 : Shape := ⟨2, ![256, 256]⟩
abbrev S256 : Shape := ⟨1, ![256]⟩
abbrev S8 : Shape := ⟨1, ![8]⟩
abbrev S_ : Shape := ⟨0, ![]⟩
abbrev S512 : Shape := ⟨1, ![512]⟩
abbrev S1 : Shape := ⟨1, ![1]⟩
abbrev S1x8x256 : Shape := ⟨3, ![1, 8, 256]⟩
abbrev S8x256 : Shape := ⟨2, ![8, 256]⟩
abbrev S1x8 : Shape := ⟨2, ![1, 8]⟩
abbrev S8x1 : Shape := ⟨2, ![8, 1]⟩
abbrev S8x2 : Shape := ⟨2, ![8, 2]⟩
abbrev S256x768 : Shape := ⟨2, ![256, 768]⟩
abbrev S8x768 : Shape := ⟨2, ![8, 768]⟩
abbrev S1x768 : Shape := ⟨2, ![1, 768]⟩
abbrev S1x256 : Shape := ⟨2, ![1, 256]⟩
abbrev S8x512x256 : Shape := ⟨3, ![8, 512, 256]⟩

abbrev nBuf : Space → Nat
  | .hbm => 190
  | .vmem => 0
  | .smem => 0
  | _ => 0

abbrev hbmTy0_0 (i : Nat) : BufTy := match i % 128 with
  | 0 => ⟨S512x8x256, .f32⟩
  | 1 => ⟨S512x8, .i32⟩
  | 2 => ⟨S512x8, .i1⟩
  | 3 => ⟨S768x256, .f32⟩
  | 4 => ⟨S768, .f32⟩
  | 5 => ⟨S768x256, .f32⟩
  | 6 => ⟨S768x256, .f32⟩
  | 7 => ⟨S256x256, .f32⟩
  | 8 => ⟨S256, .f32⟩
  | 9 => ⟨S256x256, .f32⟩
  | 10 => ⟨S256x256, .f32⟩
  | 11 => ⟨S8, .i32⟩
  | 12 => ⟨S_, .f32⟩
  | 13 => ⟨S512x8x256, .f32⟩
  | 14 => ⟨S512, .i32⟩
  | 15 => ⟨S_, .i32⟩
  | 16 => ⟨S512, .i32⟩
  | 17 => ⟨S512, .i32⟩
  | 18 => ⟨S_, .i32⟩
  | 19 => ⟨S512, .i32⟩
  | 20 => ⟨S512, .i32⟩
  | 21 => ⟨S_, .i32⟩
  | 22 => ⟨S512, .i32⟩
  | 23 => ⟨S512x8x256, .f32⟩
  | 24 => ⟨S512x8, .i32⟩
  | 25 => ⟨S8, .i32⟩
  | 26 => ⟨S512x8, .i1⟩
  | 27 => ⟨S768x256, .f32⟩
  | 28 => ⟨S768, .f32⟩
  | 29 => ⟨S768x256, .f32⟩
  | 30 => ⟨S768x256, .f32⟩
  | 31 => ⟨S256x256, .f32⟩
  | 32 => ⟨S256, .f32⟩
  | 33 => ⟨S256x256, .f32⟩
  | 34 => ⟨S256x256, .f32⟩
  | 35 => ⟨S_, .i32⟩
  | 36 => ⟨S512x8x256, .f32⟩
  | 37 => ⟨S_, .i32⟩
  | 38 => ⟨S_, .i1⟩
  | 39 => ⟨S1, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x8x256, .f32⟩
  | 63 => ⟨S8x256, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x8, .i32⟩
  | 78 => ⟨S8, .i32⟩
  | 79 => ⟨S_, .i32⟩
  | 80 => ⟨S_, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S_, .i32⟩
  | 88 => ⟨S8, .i32⟩
  | 89 => ⟨S8, .i1⟩
  | 90 => ⟨S_, .i32⟩
  | 91 => ⟨S8, .i32⟩
  | 92 => ⟨S8, .i32⟩
  | 93 => ⟨S8, .i32⟩
  | 94 => ⟨S_, .i32⟩
  | 95 => ⟨S8, .i32⟩
  | 96 => ⟨S8, .i1⟩
  | 97 => ⟨S_, .i32⟩
  | 98 => ⟨S8, .i32⟩
  | 99 => ⟨S8, .i32⟩
  | 100 => ⟨S8, .i32⟩
  | 101 => ⟨S8x1, .i32⟩
  | 102 => ⟨S8x1, .i32⟩
  | 103 => ⟨S8x2, .i32⟩
  | 104 => ⟨S8x256, .f32⟩
  | 105 => ⟨S_, .i32⟩
  | 106 => ⟨S8, .i32⟩
  | 107 => ⟨S8, .i1⟩
  | 108 => ⟨S8x1, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x8, .i1⟩
  | 123 => ⟨S8, .i1⟩
  | 124 => ⟨S8x1, .i1⟩
  | 125 => ⟨S8x1, .i1⟩
  | 126 => ⟨S_, .f32⟩
  | 127 => ⟨S_, .f32⟩
  | _ => ⟨S512x8x256, .f32⟩

abbrev hbmTy0_1 (i : Nat) : BufTy := match i % 128 with
  | 0 => ⟨S8x256, .i1⟩
  | 1 => ⟨S8x256, .f32⟩
  | 2 => ⟨S8x256, .f32⟩
  | 3 => ⟨S8x1, .i1⟩
  | 4 => ⟨S8x1, .i1⟩
  | 5 => ⟨S_, .f32⟩
  | 6 => ⟨S_, .f32⟩
  | 7 => ⟨S8x256, .i1⟩
  | 8 => ⟨S8x256, .f32⟩
  | 9 => ⟨S8x256, .f32⟩
  | 10 => ⟨S256x768, .f32⟩
  | 11 => ⟨S8x768, .f32⟩
  | 12 => ⟨S1x768, .f32⟩
  | 13 => ⟨S8x768, .f32⟩
  | 14 => ⟨S8x768, .f32⟩
  | 15 => ⟨S256x768, .f32⟩
  | 16 => ⟨S8x768, .f32⟩
  | 17 => ⟨S8x768, .f32⟩
  | 18 => ⟨S256x768, .f32⟩
  | 19 => ⟨S8x768, .f32⟩
  | 20 => ⟨S8x768, .f32⟩
  | 21 => ⟨S8x768, .f32⟩
  | 22 => ⟨S8x768, .f32⟩
  | 23 => ⟨S_, .f32⟩
  | 24 => ⟨S8x768, .f32⟩
  | 25 => ⟨S8x768, .f32⟩
  | 26 => ⟨S_, .f32⟩
  | 27 => ⟨S8x768, .f32⟩
  | 28 => ⟨S8x768, .f32⟩
  | 29 => ⟨S8x256, .f32⟩
  | 30 => ⟨S8x256, .f32⟩
  | 31 => ⟨S8x256, .f32⟩
  | 32 => ⟨S256x256, .f32⟩
  | 33 => ⟨S8x256, .f32⟩
  | 34 => ⟨S1x256, .f32⟩
  | 35 => ⟨S8x256, .f32⟩
  | 36 => ⟨S8x256, .f32⟩
  | 37 => ⟨S8x256, .f32⟩
  | 38 => ⟨S256x256, .f32⟩
  | 39 => ⟨S8x256, .f32⟩
  | 40 => ⟨S8x256, .f32⟩
  | 41 => ⟨S8x256, .f32⟩
  | 42 => ⟨S256x256, .f32⟩
  | 43 => ⟨S8x256, .f32⟩
  | 44 => ⟨S8x256, .f32⟩
  | 45 => ⟨S8x256, .f32⟩
  | 46 => ⟨S8x256, .f32⟩
  | 47 => ⟨S8x256, .f32⟩
  | 48 => ⟨S8x256, .f32⟩
  | 49 => ⟨S8x256, .f32⟩
  | 50 => ⟨S_, .i32⟩
  | 51 => ⟨S_, .i1⟩
  | 52 => ⟨S_, .i32⟩
  | 53 => ⟨S_, .i32⟩
  | 54 => ⟨S_, .i32⟩
  | 55 => ⟨S1, .i32⟩
  | 56 => ⟨S512x8x256, .f32⟩
  | 57 => ⟨S_, .i32⟩
  | 58 => ⟨S_, .i32⟩
  | 59 => ⟨S8x512x256, .f32⟩
  | 60 => ⟨S_, .f32⟩
  | 61 => ⟨S8x256, .f32⟩
  | _ => ⟨S512x8x256, .f32⟩

abbrev hbmTy (i : Nat) : BufTy := match i / 128 with
  | 0 => hbmTy0_0 i
  | 1 => hbmTy0_1 i
  | _ => ⟨S512x8x256, .f32⟩

abbrev bufTy : (tb : Table) → Fin (tcTables nBuf tb) → BufTy
  | .hbm, ⟨i, _⟩ => hbmTy i
  | _, _ => ⟨S512x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_v7_7 : Ref sig .tc := ⟨.hbm, 29, rfl⟩
abbrev main_v7_8 : Ref sig .tc := ⟨.hbm, 30, rfl⟩
abbrev main_v7_9 : Ref sig .tc := ⟨.hbm, 31, rfl⟩
abbrev main_v7_10 : Ref sig .tc := ⟨.hbm, 32, rfl⟩
abbrev main_v7_11 : Ref sig .tc := ⟨.hbm, 33, rfl⟩
abbrev main_v7_12 : Ref sig .tc := ⟨.hbm, 34, rfl⟩
abbrev main_v7_13 : Ref sig .tc := ⟨.hbm, 35, rfl⟩
abbrev main_v7_14 : Ref sig .tc := ⟨.hbm, 36, rfl⟩
abbrev main_while0c_c_17 : Ref sig .tc := ⟨.hbm, 37, rfl⟩
abbrev main_while0c_v10 : Ref sig .tc := ⟨.hbm, 38, rfl⟩
abbrev main_while0b_call0_v0 : Ref sig .tc := ⟨.hbm, 39, rfl⟩
abbrev main_while0b_v10 : Ref sig .tc := ⟨.hbm, 40, rfl⟩
abbrev main_while0b_c_17 : Ref sig .tc := ⟨.hbm, 41, rfl⟩
abbrev main_while0b_v11 : Ref sig .tc := ⟨.hbm, 42, rfl⟩
abbrev main_while0b_c_18 : Ref sig .tc := ⟨.hbm, 43, rfl⟩
abbrev main_while0b_v12 : Ref sig .tc := ⟨.hbm, 44, rfl⟩
abbrev main_while0b_v13 : Ref sig .tc := ⟨.hbm, 45, rfl⟩
abbrev main_while0b_c_19 : Ref sig .tc := ⟨.hbm, 46, rfl⟩
abbrev main_while0b_c_20 : Ref sig .tc := ⟨.hbm, 47, rfl⟩
abbrev main_while0b_v14 : Ref sig .tc := ⟨.hbm, 48, rfl⟩
abbrev main_while0b_c_21 : Ref sig .tc := ⟨.hbm, 49, rfl⟩
abbrev main_while0b_c_22 : Ref sig .tc := ⟨.hbm, 50, rfl⟩
abbrev main_while0b_v15 : Ref sig .tc := ⟨.hbm, 51, rfl⟩
abbrev main_while0b_c_23 : Ref sig .tc := ⟨.hbm, 52, rfl⟩
abbrev main_while0b_v16 : Ref sig .tc := ⟨.hbm, 53, rfl⟩
abbrev main_while0b_c_24 : Ref sig .tc := ⟨.hbm, 54, rfl⟩
abbrev main_while0b_c_25 : Ref sig .tc := ⟨.hbm, 55, rfl⟩
abbrev main_while0b_v17 : Ref sig .tc := ⟨.hbm, 56, rfl⟩
abbrev main_while0b_c_26 : Ref sig .tc := ⟨.hbm, 57, rfl⟩
abbrev main_while0b_c_27 : Ref sig .tc := ⟨.hbm, 58, rfl⟩
abbrev main_while0b_v18 : Ref sig .tc := ⟨.hbm, 59, rfl⟩
abbrev main_while0b_c_28 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_c_29 : Ref sig .tc := ⟨.hbm, 64, rfl⟩
abbrev main_while0b_v22 : Ref sig .tc := ⟨.hbm, 65, rfl⟩
abbrev main_while0b_c_30 : Ref sig .tc := ⟨.hbm, 66, rfl⟩
abbrev main_while0b_v23 : Ref sig .tc := ⟨.hbm, 67, rfl⟩
abbrev main_while0b_v24 : Ref sig .tc := ⟨.hbm, 68, rfl⟩
abbrev main_while0b_c_31 : Ref sig .tc := ⟨.hbm, 69, rfl⟩
abbrev main_while0b_c_32 : Ref sig .tc := ⟨.hbm, 70, rfl⟩
abbrev main_while0b_v25 : Ref sig .tc := ⟨.hbm, 71, rfl⟩
abbrev main_while0b_c_33 : Ref sig .tc := ⟨.hbm, 72, rfl⟩
abbrev main_while0b_c_34 : Ref sig .tc := ⟨.hbm, 73, rfl⟩
abbrev main_while0b_v26 : Ref sig .tc := ⟨.hbm, 74, rfl⟩
abbrev main_while0b_c_35 : Ref sig .tc := ⟨.hbm, 75, rfl⟩
abbrev main_while0b_v27 : Ref sig .tc := ⟨.hbm, 76, rfl⟩
abbrev main_while0b_v28 : Ref sig .tc := ⟨.hbm, 77, rfl⟩
abbrev main_while0b_v29 : Ref sig .tc := ⟨.hbm, 78, rfl⟩
abbrev main_while0b_c_36 : Ref sig .tc := ⟨.hbm, 79, rfl⟩
abbrev main_while0b_c_37 : Ref sig .tc := ⟨.hbm, 80, rfl⟩
abbrev main_while0b_call1_v0 : Ref sig .tc := ⟨.hbm, 81, rfl⟩
abbrev main_while0b_call1_v1 : Ref sig .tc := ⟨.hbm, 82, rfl⟩
abbrev main_while0b_call1_v2 : Ref sig .tc := ⟨.hbm, 83, rfl⟩
abbrev main_while0b_call1_v3 : Ref sig .tc := ⟨.hbm, 84, rfl⟩
abbrev main_while0b_call1_v4 : Ref sig .tc := ⟨.hbm, 85, rfl⟩
abbrev main_while0b_v30 : Ref sig .tc := ⟨.hbm, 86, rfl⟩
abbrev main_while0b_c_38 : Ref sig .tc := ⟨.hbm, 87, rfl⟩
abbrev main_while0b_v31 : Ref sig .tc := ⟨.hbm, 88, rfl⟩
abbrev main_while0b_v32 : Ref sig .tc := ⟨.hbm, 89, rfl⟩
abbrev main_while0b_c_39 : Ref sig .tc := ⟨.hbm, 90, rfl⟩
abbrev main_while0b_v33 : Ref sig .tc := ⟨.hbm, 91, rfl⟩
abbrev main_while0b_v34 : Ref sig .tc := ⟨.hbm, 92, rfl⟩
abbrev main_while0b_v35 : Ref sig .tc := ⟨.hbm, 93, rfl⟩
abbrev main_while0b_c_40 : Ref sig .tc := ⟨.hbm, 94, rfl⟩
abbrev main_while0b_v36 : Ref sig .tc := ⟨.hbm, 95, rfl⟩
abbrev main_while0b_v37 : Ref sig .tc := ⟨.hbm, 96, rfl⟩
abbrev main_while0b_c_41 : Ref sig .tc := ⟨.hbm, 97, rfl⟩
abbrev main_while0b_v38 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_v44 : Ref sig .tc := ⟨.hbm, 104, rfl⟩
abbrev main_while0b_c_42 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_c_43 : Ref sig .tc := ⟨.hbm, 109, rfl⟩
abbrev main_while0b_v48 : Ref sig .tc := ⟨.hbm, 110, rfl⟩
abbrev main_while0b_c_44 : Ref sig .tc := ⟨.hbm, 111, rfl⟩
abbrev main_while0b_v49 : Ref sig .tc := ⟨.hbm, 112, rfl⟩
abbrev main_while0b_v50 : Ref sig .tc := ⟨.hbm, 113, rfl⟩
abbrev main_while0b_c_45 : Ref sig .tc := ⟨.hbm, 114, rfl⟩
abbrev main_while0b_c_46 : Ref sig .tc := ⟨.hbm, 115, rfl⟩
abbrev main_while0b_v51 : Ref sig .tc := ⟨.hbm, 116, rfl⟩
abbrev main_while0b_c_47 : Ref sig .tc := ⟨.hbm, 117, rfl⟩
abbrev main_while0b_c_48 : Ref sig .tc := ⟨.hbm, 118, rfl⟩
abbrev main_while0b_v52 : Ref sig .tc := ⟨.hbm, 119, rfl⟩
abbrev main_while0b_c_49 : Ref sig .tc := ⟨.hbm, 120, rfl⟩
abbrev main_while0b_v53 : Ref sig .tc := ⟨.hbm, 121, rfl⟩
abbrev main_while0b_v54 : Ref sig .tc := ⟨.hbm, 122, rfl⟩
abbrev main_while0b_v55 : Ref sig .tc := ⟨.hbm, 123, rfl⟩
abbrev main_while0b_v56 : Ref sig .tc := ⟨.hbm, 124, rfl⟩
abbrev main_while0b_v57 : Ref sig .tc := ⟨.hbm, 125, rfl⟩
abbrev main_while0b_cst_50 : Ref sig .tc := ⟨.hbm, 126, rfl⟩
abbrev main_while0b_call2_v0 : Ref sig .tc := ⟨.hbm, 127, rfl⟩
abbrev main_while0b_call2_v1 : Ref sig .tc := ⟨.hbm, 128, rfl⟩
abbrev main_while0b_call2_v2 : Ref sig .tc := ⟨.hbm, 129, rfl⟩
abbrev main_while0b_v58 : Ref sig .tc := ⟨.hbm, 130, rfl⟩
abbrev main_while0b_v59 : Ref sig .tc := ⟨.hbm, 131, rfl⟩
abbrev main_while0b_v60 : Ref sig .tc := ⟨.hbm, 132, rfl⟩
abbrev main_while0b_cst_51 : Ref sig .tc := ⟨.hbm, 133, rfl⟩
abbrev main_while0b_call3_v0 : Ref sig .tc := ⟨.hbm, 134, rfl⟩
abbrev main_while0b_call3_v1 : Ref sig .tc := ⟨.hbm, 135, rfl⟩
abbrev main_while0b_call3_v2 : Ref sig .tc := ⟨.hbm, 136, rfl⟩
abbrev main_while0b_v61 : Ref sig .tc := ⟨.hbm, 137, rfl⟩
abbrev main_while0b_v62 : Ref sig .tc := ⟨.hbm, 138, rfl⟩
abbrev main_while0b_v63 : Ref sig .tc := ⟨.hbm, 139, rfl⟩
abbrev main_while0b_v64 : Ref sig .tc := ⟨.hbm, 140, rfl⟩
abbrev main_while0b_v65 : Ref sig .tc := ⟨.hbm, 141, rfl⟩
abbrev main_while0b_v66 : Ref sig .tc := ⟨.hbm, 142, rfl⟩
abbrev main_while0b_v67 : Ref sig .tc := ⟨.hbm, 143, rfl⟩
abbrev main_while0b_v68 : Ref sig .tc := ⟨.hbm, 144, rfl⟩
abbrev main_while0b_v69 : Ref sig .tc := ⟨.hbm, 145, rfl⟩
abbrev main_while0b_v70 : Ref sig .tc := ⟨.hbm, 146, rfl⟩
abbrev main_while0b_v71 : Ref sig .tc := ⟨.hbm, 147, rfl⟩
abbrev main_while0b_v72 : Ref sig .tc := ⟨.hbm, 148, rfl⟩
abbrev main_while0b_v73 : Ref sig .tc := ⟨.hbm, 149, rfl⟩
abbrev main_while0b_v74 : Ref sig .tc := ⟨.hbm, 150, rfl⟩
abbrev main_while0b_cst_52 : Ref sig .tc := ⟨.hbm, 151, rfl⟩
abbrev main_while0b_v75 : Ref sig .tc := ⟨.hbm, 152, rfl⟩
abbrev main_while0b_v76 : Ref sig .tc := ⟨.hbm, 153, rfl⟩
abbrev main_while0b_cst_53 : Ref sig .tc := ⟨.hbm, 154, rfl⟩
abbrev main_while0b_v77 : Ref sig .tc := ⟨.hbm, 155, rfl⟩
abbrev main_while0b_v78 : Ref sig .tc := ⟨.hbm, 156, rfl⟩
abbrev main_while0b_v79 : Ref sig .tc := ⟨.hbm, 157, rfl⟩
abbrev main_while0b_v80 : Ref sig .tc := ⟨.hbm, 158, rfl⟩
abbrev main_while0b_v81 : Ref sig .tc := ⟨.hbm, 159, rfl⟩
abbrev main_while0b_v82 : Ref sig .tc := ⟨.hbm, 160, rfl⟩
abbrev main_while0b_v83 : Ref sig .tc := ⟨.hbm, 161, rfl⟩
abbrev main_while0b_v84 : Ref sig .tc := ⟨.hbm, 162, rfl⟩
abbrev main_while0b_v85 : Ref sig .tc := ⟨.hbm, 163, rfl⟩
abbrev main_while0b_v86 : Ref sig .tc := ⟨.hbm, 164, rfl⟩
abbrev main_while0b_v87 : Ref sig .tc := ⟨.hbm, 165, rfl⟩
abbrev main_while0b_v88 : Ref sig .tc := ⟨.hbm, 166, rfl⟩
abbrev main_while0b_v89 : Ref sig .tc := ⟨.hbm, 167, rfl⟩
abbrev main_while0b_v90 : Ref sig .tc := ⟨.hbm, 168, rfl⟩
abbrev main_while0b_v91 : Ref sig .tc := ⟨.hbm, 169, rfl⟩
abbrev main_while0b_v92 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_c_54 : Ref sig .tc := ⟨.hbm, 178, rfl⟩
abbrev main_while0b_v100 : Ref sig .tc := ⟨.hbm, 179, rfl⟩
abbrev main_while0b_c_55 : Ref sig .tc := ⟨.hbm, 180, rfl⟩
abbrev main_while0b_v101 : Ref sig .tc := ⟨.hbm, 181, rfl⟩
abbrev main_while0b_v102 : Ref sig .tc := ⟨.hbm, 182, rfl⟩
abbrev main_while0b_v103 : Ref sig .tc := ⟨.hbm, 183, rfl⟩
abbrev main_while0b_v104 : Ref sig .tc := ⟨.hbm, 184, rfl⟩
abbrev main_while0b_c_56 : Ref sig .tc := ⟨.hbm, 185, rfl⟩
abbrev main_while0b_v105 : Ref sig .tc := ⟨.hbm, 186, rfl⟩
abbrev main_v8 : Ref sig .tc := ⟨.hbm, 187, rfl⟩
abbrev main_cst_2 : Ref sig .tc := ⟨.hbm, 188, rfl⟩
abbrev main_v9 : Ref sig .tc := ⟨.hbm, 189, rfl⟩

abbrev nD : Nat := 1
abbrev τ : Topo := Topo.v7x

variable {F : FTy → Type} [FloatOps F]

abbrev main_while0_count : Scf.Loop 32 := ⟨0#32, 512#32, 1#32⟩
-- ==== Proof.Spec.lean ====
/- The tree recurrence that both programs compute, over the extended reals: the gates and the cell of one step, and the
   hidden states along the chain of nodes in which node `s` is the parent of node `s - 1`. -/
module

public import proofs.«01_k».proof.KernelIdeal
public import Idealize.ShloMosaic.Lib.Pointwise

@[expose] public section

noncomputable section

namespace Cert.TreeGru

open Idealize.ShloMosaic Cert.KernelIdeal

/-- A gate of one row: the logistic function of the input's projection plus the parent state times the weights. -/
def gate (xg : Fin 768 → EReal) (w : Fin 256 → Fin 768 → EReal) (p : Fin 256 → EReal) (k : Fin 768) : EReal :=
  Ideal.logistic (xg k + ∑ j : Fin 256, p j * w j k)

/-- Gate `o + k`, where `o` is the first index of a group of 256 gates. -/
def gateAt (o : ℕ) (ho : o + 256 ≤ 768) (xg : Fin 768 → EReal) (w : Fin 256 → Fin 768 → EReal) (p : Fin 256 → EReal)
    (k : Fin 256) : EReal :=
  gate xg w p ⟨o + k.val, by omega⟩

/-- The new state of one row: the second gate times the parent state, plus the third gate times the hyperbolic tangent
    of the input's projection plus (the first gate times the parent state) times the cell's weights. -/
def cell (xg : Fin 768 → EReal) (xc : Fin 256 → EReal) (w : Fin 256 → Fin 768 → EReal) (c : Fin 256 → Fin 256 → EReal)
    (p : Fin 256 → EReal) (k : Fin 256) : EReal :=
  gateAt 256 (by decide) xg w p k * p k
    + gateAt 512 (by decide) xg w p k
      * Ideal.tanh (xc k + ∑ j : Fin 256, (gateAt 0 (by decide) xg w p j * p j) * c j k)

/-- The float arguments of the two programs. -/
structure Args where
  x : Vec Ideal S512x8x256 .f32
  wg : Vec Ideal S768x256 .f32
  bg : Vec Ideal S768 .f32
  wgl : Vec Ideal S768x256 .f32
  wgr : Vec Ideal S768x256 .f32
  wc : Vec Ideal S256x256 .f32
  bc : Vec Ideal S256 .f32
  wcl : Vec Ideal S256x256 .f32
  wcr : Vec Ideal S256x256 .f32

namespace Args

variable (A : Args)

/-- The input's projection on the gates at node `s`, row `b`. -/
def xg (s : Fin 512) (b : Fin 8) (k : Fin 768) : EReal :=
  (∑ j : Fin 256, A.x (ix3 s b j) * A.wg (ix2 k j)) + A.bg (ix1 k)

/-- The input's projection on the cell at node `s`, row `b`. -/
def xc (s : Fin 512) (b : Fin 8) (k : Fin 256) : EReal :=
  (∑ j : Fin 256, A.x (ix3 s b j) * A.wc (ix2 k j)) + A.bc (ix1 k)

/-- The step at a node whose parent hangs it on the left. -/
def left (s : Fin 512) (b : Fin 8) (p : Fin 256 → EReal) : Fin 256 → EReal :=
  cell (A.xg s b) (A.xc s b) (fun j k => A.wgl (ix2 k j)) (fun j k => A.wcl (ix2 k j)) p

/-- The step at a node whose parent hangs it on the right. -/
def right (s : Fin 512) (b : Fin 8) (p : Fin 256 → EReal) : Fin 256 → EReal :=
  cell (A.xg s b) (A.xc s b) (fun j k => A.wgr (ix2 k j)) (fun j k => A.wcr (ix2 k j)) p

/-- The node met at step `n`. -/
def node (n : ℕ) : Fin 512 := ⟨511 - n, by omega⟩

/-- The state of row `b` after `n` steps from the last node down. -/
def hid (b : Fin 8) : ℕ → Fin 256 → EReal
  | 0 => fun _ => 0
  | n + 1 => if n % 2 = 0 then A.right (node n) b (hid b n) else A.left (node n) b (hid b n)

theorem hid_zero (b : Fin 8) : A.hid b 0 = fun _ => 0 := rfl

/-- After an even number of steps the next node hangs on the right. -/
theorem hid_even (b : Fin 8) (n : ℕ) (h : n % 2 = 0) : A.hid b (n + 1) = A.right (node n) b (A.hid b n) := by
  rw [hid, if_pos h]

/-- After an odd number of steps the next node hangs on the left. -/
theorem hid_odd (b : Fin 8) (n : ℕ) (h : ¬ n % 2 = 0) : A.hid b (n + 1) = A.left (node n) b (A.hid b n) := by
  rw [hid, if_neg h]

/-- The states of all the rows after `n` steps, as an array. -/
def hidVec (n : ℕ) : FVec Ideal S8x256 .f32 := fun i => A.hid (i 0) n (i 1)

/-- The result: row `b`, node `s` holds the state after `512 - s` steps. -/
def out : Vec Ideal S8x512x256 .f32 := fun i => A.hid (i 0) (512 - (i 1 : Fin 512).val) (i 2)

end Args

end Cert.TreeGru

end
-- ==== Proof.KernelStep.lean ====
/- One half trip of the kernel's loop at an index, and the two projections computed before the loop. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.TreeGru

open Idealize.ShloMosaic Cert.KernelIdeal Cert.KernelIdeal.Gen

/-- The half trip with the right weights, at row `b` and component `k`, is the cell of the row. -/
theorem pay7_apply (p : FVec Ideal S8x256 .f32) (w : Vec Ideal S256x768 .bf16) (c : Vec Ideal S256x256 .bf16)
    (xg : Vec Ideal S8x768 .f32) (xc : Vec Ideal S8x256 .f32) (b : Fin 8) (k : Fin 256) :
    k0_pay7 p w c xg xc (ix2 b k)
      = cell (fun l => xg (ix2 b l)) (fun l => xc (ix2 b l)) (fun j l => w (ix2 j l)) (fun j l => c (ix2 j l))
          (fun l => p (ix2 b l)) k := by
  pointwise [k0_pay7]
  unfold cell gateAt gate
  simp only [Nat.zero_add, ← Nat.add_assoc, Nat.reduceAdd]

/-- The half trip with the left weights is the same function of its operands. -/
theorem pay5_eq (p : FVec Ideal S8x256 .f32) (w : Vec Ideal S256x768 .bf16) (c : Vec Ideal S256x256 .bf16)
    (xg : Vec Ideal S8x768 .f32) (xc : Vec Ideal S8x256 .f32) :
    k0_pay5 p (k0_pay9 w) c xg xc = k0_pay7 p w c xg xc := by
  unfold k0_pay5 k0_pay9 k0_pay7
  rfl

/-- What the right half trip stores is its value with a unit axis put in. -/
theorem pay8_apply (p : FVec Ideal S8x256 .f32) (w : Vec Ideal S256x768 .bf16) (c : Vec Ideal S256x256 .bf16)
    (xg : Vec Ideal S8x768 .f32) (xc : Vec Ideal S8x256 .f32) (b : Fin 8) (z : Fin 1) (k : Fin 256) :
    k0_pay8 p w c xg xc (ix3 b z k) = k0_pay7 p w c xg xc (ix2 b k) := by
  unfold k0_pay8
  generalize k0_pay7 p w c xg xc = q
  pointwise

/-- What the left half trip stores is its value with a unit axis put in. -/
theorem pay6_apply (p : FVec Ideal S8x256 .f32) (w : FVec Ideal S256x768 .bf16) (c : Vec Ideal S256x256 .bf16)
    (xg : Vec Ideal S8x768 .f32) (xc : Vec Ideal S8x256 .f32) (b : Fin 8) (z : Fin 1) (k : Fin 256) :
    k0_pay6 p w c xg xc (ix3 b z k) = k0_pay5 p w c xg xc (ix2 b k) := by
  unfold k0_pay6
  generalize k0_pay5 p w c xg xc = q
  pointwise

/-- The projection on the gates, computed for all nodes before the loop. -/
theorem pay2_apply (x : Vec Ideal S4096x256 .f32) (w : Vec Ideal S256x768 .f32) (b : Vec Ideal S1x768 .f32)
    (r : Fin 4096) (k : Fin 768) :
    k0_pay2 x w b (ix2 r k) = (∑ j : Fin 256, x (ix2 r j) * w (ix2 j k)) + b (ix2 0 k) := by
  pointwise [k0_pay2, k0_pay1]

/-- The projection on the cell, computed for all nodes before the loop. -/
theorem pay3_apply (x : Vec Ideal S4096x256 .f32) (w : Vec Ideal S256x256 .f32) (b : Vec Ideal S1x256 .f32)
    (r : Fin 4096) (k : Fin 256) :
    k0_pay3 x w b (ix2 r k) = (∑ j : Fin 256, x (ix2 r j) * w (ix2 j k)) + b (ix2 0 k) := by
  pointwise [k0_pay3, k0_pay1]

/-- The loop starts from zeros. -/
theorem pay4_apply (i : S8x256.Idx) : (k0_pay4 (F := Ideal)) i = (0 : EReal) := by
  pointwise [k0_pay4]

end Cert.TreeGru

end
-- ==== Proof.KernelLoop.lean ====
/- The kernel's loop: before trip `k` the carried array holds the states after `2 k` steps, and every block stored so far
   holds the result's values at its place. -/
module

public import proofs.«01_k».proof.Proof.Gen.KernelIdeal.Frame
public import proofs.«01_k».proof.Proof.KernelStep
public import Idealize.ShloMosaic.Lib.Pipeline.ValueKit

@[expose] public section

set_option maxRecDepth 16384

noncomputable section

namespace Cert.TreeGru

open Idealize.ShloMosaic Cert.KernelIdeal Cert.KernelIdeal.Gen

/-- What the loop reads: the four recurrent weights, transposed, and the two projections, row `8 s + b` for node `s` and
    row `b`. -/
structure Reads (A : Args) (w2 w3 : Vec Ideal S256x768 .bf16) (w5 w6 : Vec Ideal S256x256 .bf16)
    (v10 : Vec Ideal S4096x768 .f32) (v11 : Vec Ideal S4096x256 .f32) : Prop where
  h2 : ∀ (j : Fin 256) (k : Fin 768), w2 (ix2 j k) = A.wgl (ix2 k j)
  h3 : ∀ (j : Fin 256) (k : Fin 768), w3 (ix2 j k) = A.wgr (ix2 k j)
  h5 : ∀ (j : Fin 256) (k : Fin 256), w5 (ix2 j k) = A.wcl (ix2 k j)
  h6 : ∀ (j : Fin 256) (k : Fin 256), w6 (ix2 j k) = A.wcr (ix2 k j)
  h10 : ∀ (s : Fin 512) (b : Fin 8) (k : Fin 768) (h : 8 * s.val + b.val < 4096),
    v10 (ix2 ⟨8 * s.val + b.val, h⟩ k) = A.xg s b k
  h11 : ∀ (s : Fin 512) (b : Fin 8) (k : Fin 256) (h : 8 * s.val + b.val < 4096),
    v11 (ix2 ⟨8 * s.val + b.val, h⟩ k) = A.xc s b k

variable {A : Args} {w2 w3 : Vec Ideal S256x768 .bf16} {w5 w6 : Vec Ideal S256x256 .bf16}
  {v10 : Vec Ideal S4096x768 .f32} {v11 : Vec Ideal S4096x256 .f32}

/-- A load of the whole array reads the array. -/
theorem ld_whole {S : Shape} {e : EltTy} (X : S.Idx → Elt Ideal e) (off : Fin S.rank → ℕ) (h0 : ∀ a, off a = 0) (inb)
    (i : S.Idx) : View.ld X (Rect.unit off S.size inb) i = X i :=
  View.ld_unit_apply_of X off S.size inb i i (fun a => by rw [h0 a, Nat.zero_add])

/-- A load of eight rows from row `8 s` reads row `8 s + b` at row `b`. -/
theorem ld_rows {K : ℕ} (X : (⟨2, ![4096, K]⟩ : Shape).Idx → EReal) (off : Fin 2 → ℕ) (s : ℕ) (hs : s < 512)
    (hoff : off = ![8 * s, 0]) (inb : ∀ a, off a + (⟨2, ![8, K]⟩ : Shape).size a ≤ (⟨2, ![4096, K]⟩ : Shape).size a)
    (b : Fin 8) (k : Fin K) :
    View.ld (Val := Elt Ideal) (e' := .f32) (S := ⟨2, ![4096, K]⟩) X (Rect.unit off (⟨2, ![8, K]⟩ : Shape).size inb) (ix2 b k)
      = X (ix2 ⟨8 * s + b.val, by omega⟩ k) := by
  subst hoff
  exact View.ld_unit_apply_of (Val := Elt Ideal) (e := .f32) (S := ⟨2, ![4096, K]⟩) X _ _ inb (ix2 b k) (ix2 ⟨8 * s + b.val, by omega⟩ k)
    (fun a => by fin_cases a <;> simp [ix2])

/-- The half trip with the right weights takes the states after an even number of steps to the next ones. -/
theorem right_half (R : Reads A w2 w3 w5 w6 v10 v11) (n : ℕ) (hn : n % 2 = 0) (hn' : n < 512)
    (off off' : Fin 2 → ℕ) (hoff : off = ![8 * (511 - n), 0]) (hoff' : off' = ![8 * (511 - n), 0]) (inb inb' inb3 inb6) :
    k0_pay7 (A.hidVec n) (View.ld w3 (Rect.unit ![0, 0] S256x768.size inb3)) (View.ld w6 (Rect.unit ![0, 0] S256x256.size inb6))
      (View.ld v10 (Rect.unit off S8x768.size inb)) (View.ld v11 (Rect.unit off' S8x256.size inb')) = A.hidVec (n + 1) := by
  funext i
  obtain ⟨b, k, rfl⟩ : ∃ (b : Fin 8) (k : Fin 256), i = ix2 b k := ⟨i 0, i 1, funext fun a => by fin_cases a <;> rfl⟩
  rw [pay7_apply]
  show _ = A.hid b (n + 1) k
  rw [A.hid_even b n hn]
  unfold Args.right
  congr 1
  · funext l
    rw [ld_rows v10 off (511 - n) (by omega) hoff inb b l]
    exact R.h10 (Args.node n) b l _
  · funext l
    rw [ld_rows v11 off' (511 - n) (by omega) hoff' inb' b l]
    exact R.h11 (Args.node n) b l _
  · funext j l
    rw [ld_whole w3 _ (fun a => by fin_cases a <;> rfl)]
    exact R.h3 j l
  · funext j l
    rw [ld_whole w6 _ (fun a => by fin_cases a <;> rfl)]
    exact R.h6 j l

/-- The half trip with the left weights takes the states after an odd number of steps to the next ones. -/
theorem left_half (R : Reads A w2 w3 w5 w6 v10 v11) (n : ℕ) (hn : ¬ n % 2 = 0) (hn' : n < 512)
    (off off' : Fin 2 → ℕ) (hoff : off = ![8 * (511 - n), 0]) (hoff' : off' = ![8 * (511 - n), 0]) (inb inb' inb2 inb5) :
    k0_pay7 (A.hidVec n) (View.ld w2 (Rect.unit ![0, 0] S256x768.size inb2)) (View.ld w5 (Rect.unit ![0, 0] S256x256.size inb5))
      (View.ld v10 (Rect.unit off S8x768.size inb)) (View.ld v11 (Rect.unit off' S8x256.size inb')) = A.hidVec (n + 1) := by
  funext i
  obtain ⟨b, k, rfl⟩ : ∃ (b : Fin 8) (k : Fin 256), i = ix2 b k := ⟨i 0, i 1, funext fun a => by fin_cases a <;> rfl⟩
  rw [pay7_apply]
  show _ = A.hid b (n + 1) k
  rw [A.hid_odd b n hn]
  unfold Args.left
  congr 1
  · funext l
    rw [ld_rows v10 off (511 - n) (by omega) hoff inb b l]
    exact R.h10 (Args.node n) b l _
  · funext l
    rw [ld_rows v11 off' (511 - n) (by omega) hoff' inb' b l]
    exact R.h11 (Args.node n) b l _
  · funext j l
    rw [ld_whole w2 _ (fun a => by fin_cases a <;> rfl)]
    exact R.h2 j l
  · funext j l
    rw [ld_whole w5 _ (fun a => by fin_cases a <;> rfl)]
    exact R.h5 j l

/-- A stored block that holds the states after `n + 1` steps holds the result's values at node `511 - n`. -/
theorem piece_out (n : ℕ) (hn : n < 512) (off : Fin 3 → ℕ) (hoff : off = ![0, 511 - n, 0]) (inb)
    (w : FVec Ideal S8x1x256 .f32) (hw : ∀ (b : Fin 8) (z : Fin 1) (k : Fin 256), w (ix3 b z k) = A.hidVec (n + 1) (ix2 b k))
    (x : (Rect.unit (s := S8x512x256) off S8x1x256.size inb).shape.Idx) :
    w x = A.out ((Rect.unit (s := S8x512x256) off S8x1x256.size inb).emb x) := by
  subst hoff
  change S8x1x256.Idx at x
  obtain ⟨b, z, k, rfl⟩ : ∃ (b : Fin 8) (z : Fin 1) (k : Fin 256), x = ix3 b z k :=
    ⟨x 0, x 1, x 2, funext fun a => by fin_cases a <;> rfl⟩
  rw [hw b z k]
  show A.hid b (n + 1) k = A.hid _ (512 - _) _
  have hz : z.val = 0 := by omega
  congr 1
  · exact Fin.ext (by show b.val = 0 + 1 * b.val; omega)
  · show n + 1 = 512 - (511 - n + 1 * z.val)
    omega
  · exact Fin.ext (by show k.val = 0 + 1 * k.val; omega)

set_option maxHeartbeats 1000000 in
/-- One trip from the states after `2 k` steps: what it yields, and the two blocks it stores. -/
theorem trip_spec (𝒱 : Variants) (c : Dev nD) (bd : Option 𝒱.V) (arg0 : Memref sig .tc .vmem S4096x256 .f32) (harg0 : arg0.IsWhole) (arg1 : Memref sig .tc .vmem S256x768 .f32) (harg1 : arg1.IsWhole) (arg2 : Memref sig .tc .vmem S256x768 .bf16) (harg2 : arg2.IsWhole) (arg3 : Memref sig .tc .vmem S256x768 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x768 .f32) (harg7 : arg7.IsWhole) (arg8 : Memref sig .tc .vmem S1x256 .f32) (harg8 : arg8.IsWhole) (arg9 : Memref sig .tc .vmem S8x512x256 .f32) (harg9 : arg9.IsWhole) (arg10 : Memref sig .tc .vmem S4096x768 .f32) (harg10 : arg10.IsWhole) (arg11 : Memref sig .tc .vmem S4096x256 .f32) (harg11 : arg11.IsWhole)
  (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg10 : BufTy.Contents (Elt Ideal) arg10.view.ty) (X_arg11 : BufTy.Contents (Elt Ideal) arg11.view.ty) (k : Fin k0_t1_loop.trips)
  (R : Reads A (arg2.view.read (Elt Ideal) X_arg2) (arg3.view.read (Elt Ideal) X_arg3) (arg5.view.read (Elt Ideal) X_arg5) (arg6.view.read (Elt Ideal) X_arg6) (arg10.view.read (Elt Ideal) X_arg10) (arg11.view.read (Elt Ideal) X_arg11)) :
   tripR_k0_t1 (F := Ideal) 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 k (A.hidVec (2 * k.val)) = A.hidVec (2 * (k.val + 1))
   ∧ ∀ p ∈ tripL_k0_t1 (F := Ideal) 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 k (A.hidVec (2 * k.val)), ∀ x : p.1.shape.Idx, p.2 x = A.out (p.1.emb x) := by
  have hk : k.val < 256 := Nat.lt_of_lt_of_le k.isLt k0_t1_abs.2.1
  have e1 : k0_off1 k = ![8 * (511 - 2 * k.val), 0] := by rw [k0_off1_eq]; congr 1; omega
  have e2 : k0_off2 k = ![8 * (511 - 2 * k.val), 0] := by rw [k0_off2_eq]; congr 1; omega
  have e3 : k0_off3 k = ![0, 511 - 2 * k.val, 0] := k0_off3_eq k
  have e4 : k0_off4 k = ![8 * (511 - (2 * k.val + 1)), 0] := by rw [k0_off4_eq]; congr 1; omega
  have e5 : k0_off5 k = ![8 * (511 - (2 * k.val + 1)), 0] := by rw [k0_off5_eq]; congr 1; omega
  have e6 : k0_off6 k = ![0, 511 - (2 * k.val + 1), 0] := by
    rw [k0_off6_eq, show 511 - (2 * k.val + 1) = 510 - 2 * k.val by omega]
  have hr := right_half R (2 * k.val) (by omega) (by omega) (k0_off1 k) (k0_off2 k) e1 e2
    (k0_off1_inb k) (k0_off2_inb k) inb_S256x768_S256x768_0_0 inb_S256x256_S256x256_0_0
  have hl := left_half R (2 * k.val + 1) (by omega) (by omega) (k0_off4 k) (k0_off5 k) e4 e5
    (k0_off4_inb k) (k0_off5_inb k) inb_S256x768_S256x768_0_0 inb_S256x256_S256x256_0_0
  unfold tripR_k0_t1 tripL_k0_t1 trip_k0_t1
  dsimp only
  unfold trip_k0_t1.sl.r trip_k0_t1.sl.r_1
  simp only [View.readAt_eq_ld]
  refine ⟨?_, ?_⟩
  · rw [pay5_eq]
    rw [hr]
    exact hl
  · intro p hp
    rcases List.mem_cons.mp hp with rfl | hp
    · refine piece_out (2 * k.val + 1) (by omega) _ e6 (k0_off6_inb k) _ ?_
      intro b z l
      refine (pay6_apply _ _ _ _ _ b z l).trans ?_
      rw [pay5_eq, hr]
      exact congrFun hl _
    · rcases List.mem_singleton.mp hp with rfl
      refine piece_out (2 * k.val) (by omega) _ e3 (k0_off3_inb k) _ ?_
      intro b z l
      exact (pay8_apply _ _ _ _ _ b z l).trans (congrFun hr _)

/-- The loop, after any number of trips. -/
theorem loop_spec (𝒱 : Variants) (c : Dev nD) (bd : Option 𝒱.V) (arg0 : Memref sig .tc .vmem S4096x256 .f32) (harg0 : arg0.IsWhole) (arg1 : Memref sig .tc .vmem S256x768 .f32) (harg1 : arg1.IsWhole) (arg2 : Memref sig .tc .vmem S256x768 .bf16) (harg2 : arg2.IsWhole) (arg3 : Memref sig .tc .vmem S256x768 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x768 .f32) (harg7 : arg7.IsWhole) (arg8 : Memref sig .tc .vmem S1x256 .f32) (harg8 : arg8.IsWhole) (arg9 : Memref sig .tc .vmem S8x512x256 .f32) (harg9 : arg9.IsWhole) (arg10 : Memref sig .tc .vmem S4096x768 .f32) (harg10 : arg10.IsWhole) (arg11 : Memref sig .tc .vmem S4096x256 .f32) (harg11 : arg11.IsWhole)
  (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg10 : BufTy.Contents (Elt Ideal) arg10.view.ty) (X_arg11 : BufTy.Contents (Elt Ideal) arg11.view.ty)
  (R : Reads A (arg2.view.read (Elt Ideal) X_arg2) (arg3.view.read (Elt Ideal) X_arg3) (arg5.view.read (Elt Ideal) X_arg5) (arg6.view.read (Elt Ideal) X_arg6) (arg10.view.read (Elt Ideal) X_arg10) (arg11.view.read (Elt Ideal) X_arg11)) :
  ∀ n, n ≤ k0_t1_loop.trips →
   (st_k0_t1 (F := Ideal) 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 k0_pay4 n).1 = A.hidVec (2 * n)
   ∧ ∀ p ∈ (st_k0_t1 (F := Ideal) 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 k0_pay4 n).2, ∀ x : p.1.shape.Idx, p.2 x = A.out (p.1.emb x)
  | 0, _ => by
    refine ⟨?_, fun p hp => absurd hp List.not_mem_nil⟩
    rw [st_k0_t1_zero]
    funext i
    exact pay4_apply i
  | n + 1, hn => by
    obtain ⟨h1, h2⟩ := loop_spec 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 R n (by omega)
    have hT := trip_spec 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 ⟨n, hn⟩ R
    have hs := st_k0_t1_succ (F := Ideal) 𝒱 c bd arg0 harg0 arg1 harg1 arg2 harg2 arg3 harg3 arg4 harg4 arg5 harg5 arg6 harg6 arg7 harg7 arg8 harg8 arg9 harg9 arg10 harg10 arg11 harg11 X_arg2 X_arg3 X_arg5 X_arg6 X_arg10 X_arg11 k0_pay4 ⟨n, hn⟩
    dsimp only at hs hT
    rw [hs, h1]
    refine ⟨hT.1, fun p hp => ?_⟩
    rcases List.mem_append.mp hp with hp | hp
    · exact hT.2 p hp
    · exact h2 p hp

end Cert.TreeGru

end
-- ==== Proof.KernelOut.lean ====
/- What the kernel leaves in the output's buffer, from what it finds in its operands' buffers. -/
module

public import proofs.«01_k».proof.Proof.KernelLoop
public import Idealize.ShloMosaic.Lib.VecWindow

@[expose] public section

set_option maxRecDepth 16384

noncomputable section

namespace Cert.TreeGru

open Idealize.ShloMosaic Cert.KernelIdeal Cert.KernelIdeal.Gen

/-- What the kernel finds in its operands: the input with its first two axes merged, the weights transposed, the biases
    with a unit axis in front. -/
structure Operands (A : Args) (x0 : Vec Ideal S4096x256 .f32) (x1 : Vec Ideal S256x768 .f32)
    (x2 x3 : Vec Ideal S256x768 .bf16) (x4 : Vec Ideal S256x256 .f32) (x5 x6 : Vec Ideal S256x256 .bf16)
    (x7 : Vec Ideal S1x768 .f32) (x8 : Vec Ideal S1x256 .f32) : Prop where
  h0 : ∀ (s : Fin 512) (b : Fin 8) (j : Fin 256) (h : 8 * s.val + b.val < 4096),
    x0 (ix2 ⟨8 * s.val + b.val, h⟩ j) = A.x (ix3 s b j)
  h1 : ∀ (j : Fin 256) (k : Fin 768), x1 (ix2 j k) = A.wg (ix2 k j)
  h2 : ∀ (j : Fin 256) (k : Fin 768), x2 (ix2 j k) = A.wgl (ix2 k j)
  h3 : ∀ (j : Fin 256) (k : Fin 768), x3 (ix2 j k) = A.wgr (ix2 k j)
  h4 : ∀ (j : Fin 256) (k : Fin 256), x4 (ix2 j k) = A.wc (ix2 k j)
  h5 : ∀ (j : Fin 256) (k : Fin 256), x5 (ix2 j k) = A.wcl (ix2 k j)
  h6 : ∀ (j : Fin 256) (k : Fin 256), x6 (ix2 j k) = A.wcr (ix2 k j)
  h7 : ∀ k : Fin 768, x7 (ix2 0 k) = A.bg (ix1 k)
  h8 : ∀ k : Fin 256, x8 (ix2 0 k) = A.bc (ix1 k)

variable {A : Args} {x0 : Vec Ideal S4096x256 .f32} {x1 : Vec Ideal S256x768 .f32}
    {x2 x3 : Vec Ideal S256x768 .bf16} {x4 : Vec Ideal S256x256 .f32} {x5 x6 : Vec Ideal S256x256 .bf16}
    {x7 : Vec Ideal S1x768 .f32} {x8 : Vec Ideal S1x256 .f32}

/-- The projection on the gates, row `8 s + b`. -/
theorem pay2_xg (O : Operands A x0 x1 x2 x3 x4 x5 x6 x7 x8) (s : Fin 512) (b : Fin 8) (k : Fin 768)
    (h : 8 * s.val + b.val < 4096) : k0_pay2 x0 x1 x7 (ix2 ⟨8 * s.val + b.val, h⟩ k) = A.xg s b k := by
  rw [pay2_apply, O.h7]
  unfold Args.xg
  congr 1
  exact Finset.sum_congr rfl fun j _ => by rw [O.h0 s b j h, O.h1]

/-- The projection on the cell, row `8 s + b`. -/
theorem pay3_xc (O : Operands A x0 x1 x2 x3 x4 x5 x6 x7 x8) (s : Fin 512) (b : Fin 8) (k : Fin 256)
    (h : 8 * s.val + b.val < 4096) : k0_pay3 x0 x4 x8 (ix2 ⟨8 * s.val + b.val, h⟩ k) = A.xc s b k := by
  rw [pay3_apply, O.h8]
  unfold Args.xc
  congr 1
  exact Finset.sum_congr rfl fun j _ => by rw [O.h0 s b j h, O.h4]

/-- A load of a whole array is the array. -/
theorem ld_all {S : Shape} {e : EltTy} (X : S.Idx → Elt Ideal e) (off : Fin S.rank → ℕ) (h0 : ∀ a, off a = 0) (inb) :
    View.ld X (Rect.unit off S.size inb) = X :=
  funext fun i => ld_whole X off h0 inb i

/-- The kernel leaves the result in the output's buffer. -/
theorem out_A (c : Dev nD) (arg0 : Memref sig .tc .vmem S4096x256 .f32) (harg0 : arg0.IsWhole) (arg1 : Memref sig .tc .vmem S256x768 .f32) (harg1 : arg1.IsWhole) (arg2 : Memref sig .tc .vmem S256x768 .bf16) (harg2 : arg2.IsWhole) (arg3 : Memref sig .tc .vmem S256x768 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x768 .f32) (harg7 : arg7.IsWhole) (arg8 : Memref sig .tc .vmem S1x256 .f32) (harg8 : arg8.IsWhole) (arg9 : Memref sig .tc .vmem S8x512x256 .f32) (harg9 : arg9.IsWhole) (arg10 : Memref sig .tc .vmem S4096x768 .f32) (harg10 : arg10.IsWhole) (arg11 : Memref sig .tc .vmem S4096x256 .f32) (harg11 : arg11.IsWhole)
    (O : Operands A x0 x1 x2 x3 x4 x5 x6 x7 x8) :
    out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 = A.out := by
  unfold out0_A_9
  funext y
  refine View.read_writes_apply_of_pieces _ _ A.out _ ?_ y (cover0_A_9 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 y)
  unfold kernelRun0_A
  dsimp only
  refine (loop_spec _ _ _ arg0 harg0 arg1 harg1 arg2 harg2 arg3 harg3 arg4 harg4 arg5 harg5 arg6 harg6 arg7 harg7 arg8 harg8 arg9 harg9 arg10 harg10 arg11 harg11 _ _ _ _ _ _ ?_ _ (Nat.le_refl _)).2
  unfold kernelRun0_A.sl.HS0_1 kernelRun0_A.sl.HS1_1
  rw [View.read_writes_full, View.read_writes_full]
  simp only [View.readAt_eq_ld, harg0.read_unread, harg1.read_unread, harg2.read_unread, harg3.read_unread, harg4.read_unread,
    harg5.read_unread, harg6.read_unread, harg7.read_unread, harg8.read_unread]
  refine ⟨O.h2, O.h3, O.h5, O.h6, fun s b k h => ?_, fun s b k h => ?_⟩
  · refine Eq.trans ?_ (pay2_xg O s b k h)
    rw [ld_all x0 _ (by decide), ld_all x1 _ (by decide), ld_all x7 _ (by decide)]
  · refine Eq.trans ?_ (pay3_xc O s b k h)
    rw [ld_all x0 _ (by decide), ld_all x4 _ (by decide), ld_all x8 _ (by decide)]

end Cert.TreeGru

end
-- ==== Proof.KernelValue.lean ====
/- The value of the kernel: its first result is the hidden state of every node, its second result is zero. -/
module

public import proofs.«01_k».proof.Proof.KernelOut
public import Idealize.ShloMosaic.Lib.Pipeline.ValueKit

@[expose] public section

set_option maxRecDepth 16384

noncomputable section

namespace Cert.TreeGru

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The float arguments in the kernel's memory. -/
def kargs (c : Dev nD) : Args where
  x := m ((c : Thread nD τ).loc main_arg0)
  wg := m ((c : Thread nD τ).loc main_arg3)
  bg := m ((c : Thread nD τ).loc main_arg4)
  wgl := m ((c : Thread nD τ).loc main_arg5)
  wgr := m ((c : Thread nD τ).loc main_arg6)
  wc := m ((c : Thread nD τ).loc main_arg7)
  bc := m ((c : Thread nD τ).loc main_arg8)
  wcl := m ((c : Thread nD τ).loc main_arg9)
  wcr := m ((c : Thread nD τ).loc main_arg10)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] :=
  (by decide +kernel : ∀ t : Fin grid0.N, _)

/-- Operand 0 holds argument 0, reshaped. -/
theorem block_0 (c : Dev nD) (t : Fin cfg0.N) :
    iblk m c 0 t = shapeCast S4096x256 (m ((c : Thread nD τ).loc main_arg0)) shapeCasts_S512x8x256_S4096x256 := by
  have e : iblk m c 0 t = V m c main_v0 := by
    funext x
    blk_ext [iblk, idx t]
  rw [e]
  unfold V V0
  simp only [hostOps0, List.flatten_cons, List.flatten_nil, List.append_nil]
  after_results
  rfl

/-- Operand 1 holds argument 3, transposed. -/
theorem block_1 (c : Dev nD) (t : Fin cfg0.N) :
    iblk m c 1 t = transpose S256x768 [1, 0] (m ((c : Thread nD τ).loc main_arg3)) transposes_S768x256_S256x768_1_0 := by
  have e : iblk m c 1 t = V m c main_v1 := by
    funext x
    blk_ext [iblk, idx t]
  rw [e]
  unfold V V0
  simp only [hostOps0, List.flatten_cons, List.flatten_nil, List.append_nil]
  after_results

/-- Operand 2 holds argument 5, transposed. -/
theorem block_2 (c : Dev nD) (t : Fin cfg0.N) :
    iblk m c 2 t = (truncf (F := Ideal) .bf16 (transpose S256x768 [1, 0] (m ((c : Thread nD τ).loc main_arg5)) transposes_S768x256_S256x768_1_0) bitsLt_bf16_f32) := by
  have e : iblk m c 2 t = V m c main_v3 := by
    funext x
    blk_ext [iblk, idx t]
  rw [e]
  unfold V V0
  simp only [hostOps0, List.flatten_cons, List.flatten_nil, List.append_nil]
  after_results

/-- Operand 3 holds argument 6, transposed. -/
theorem block_3 (c : Dev nD) (t : Fin cfg0.N) :
    iblk m c 3 t = (truncf (F := Ideal) .bf16 (transpose S256x768 [1, 0] (m ((c : Thread nD τ).loc main_arg6)) transposes_S768x256_S256x768_1_0) bitsLt_bf16_f32) := by
  have e : iblk m c 3 t = V m c main_v5 := by
    funext x
    blk_ext [iblk, idx t]
  rw [e]
  unfold V V0
  simp only [hostOps0, List.flatten_cons, List.flatten_nil, List.append_nil]
  after_results

/-- Operand 4 holds argument 7, transposed. -/
theorem block_4 (c : Dev nD) (t : Fin cfg0.N) :
    iblk m c 4 t = transpose S256x256 [1, 0] (m ((c : Thread nD τ).loc main_arg7)) transposes_S256x256_S256x256_1_0 := by
  have e : iblk m c 4 t = V m c main_v6 := by
    funext x
    blk_ext [iblk, idx t]
  rw [e]
  unfold V V0
  simp only [hostOps0, List.flatten_cons, List.flatten_nil, List.append_nil]
  after_results

/-- Operand 5 holds argument 9, transposed. -/
theorem block_5 (c : Dev nD) (t : Fin cfg0.N) :
    iblk m c 5 t = (truncf (F := Ideal) .bf16 (transpose S256x256 [1, 0] (m ((c : Thread nD τ).loc main_arg9)) transposes_S256x256_S256x256_1_0) bitsLt_bf16_f32) := by
  have e : iblk m c 5 t = V m c main_v8 := by
    funext x
    blk_ext [iblk, idx t]
  rw [e]
  unfold V V0
  simp only [hostOps0, List.flatten_cons, List.flatten_nil, List.append_nil]
  after_results

/-- Operand 6 holds argument 10, transposed. -/
theorem block_6 (c : Dev nD) (t : Fin cfg0.N) :
    iblk m c 6 t = (truncf (F := Ideal) .bf16 (transpose S256x256 [1, 0] (m ((c : Thread nD τ).loc main_arg10)) transposes_S256x256_S256x256_1_0) bitsLt_bf16_f32) := by
  have e : iblk m c 6 t = V m c main_v10 := by
    funext x
    blk_ext [iblk, idx t]
  rw [e]
  unfold V V0
  simp only [hostOps0, List.flatten_cons, List.flatten_nil, List.append_nil]
  after_results

/-- Operand 7 holds argument 4, reshaped. -/
theorem block_7 (c : Dev nD) (t : Fin cfg0.N) :
    iblk m c 7 t = shapeCast S1x768 (m ((c : Thread nD τ).loc main_arg4)) shapeCasts_S768_S1x768 := by
  have e : iblk m c 7 t = V m c main_v11 := by
    funext x
    blk_ext [iblk, idx t]
  rw [e]
  unfold V V0
  simp only [hostOps0, List.flatten_cons, List.flatten_nil, List.append_nil]
  after_results
  rfl

/-- Operand 8 holds argument 8, reshaped. -/
theorem block_8 (c : Dev nD) (t : Fin cfg0.N) :
    iblk m c 8 t = shapeCast S1x256 (m ((c : Thread nD τ).loc main_arg8)) shapeCasts_S256_S1x256 := by
  have e : iblk m c 8 t = V m c main_v12 := by
    funext x
    blk_ext [iblk, idx t]
  rw [e]
  unfold V V0
  simp only [hostOps0, List.flatten_cons, List.flatten_nil, List.append_nil]
  after_results
  rfl

/-- A transposed array read at an index. -/
theorem read_t768 (X : FVec Ideal S768x256 .f32) (j : Fin 256) (k : Fin 768) :
    transpose S256x768 [1, 0] X transposes_S768x256_S256x768_1_0 (ix2 j k) = X (ix2 k j) := by
  pointwise

/-- A transposed array, narrowed, read at an index. -/
theorem read_n768 (X : FVec Ideal S768x256 .f32) (j : Fin 256) (k : Fin 768) :
    (truncf (F := Ideal) .bf16 (transpose S256x768 [1, 0] X transposes_S768x256_S256x768_1_0) bitsLt_bf16_f32) (ix2 j k)
      = X (ix2 k j) := by
  pointwise

/-- A transposed square array read at an index. -/
theorem read_t256 (X : FVec Ideal S256x256 .f32) (j k : Fin 256) :
    transpose S256x256 [1, 0] X transposes_S256x256_S256x256_1_0 (ix2 j k) = X (ix2 k j) := by
  pointwise

/-- A transposed square array, narrowed, read at an index. -/
theorem read_n256 (X : FVec Ideal S256x256 .f32) (j k : Fin 256) :
    (truncf (F := Ideal) .bf16 (transpose S256x256 [1, 0] X transposes_S256x256_S256x256_1_0) bitsLt_bf16_f32) (ix2 j k)
      = X (ix2 k j) := by
  pointwise

/-- The input with its first two axes merged, read at an index. -/
theorem read_x (X : FVec Ideal S512x8x256 .f32) (s : Fin 512) (b : Fin 8) (j : Fin 256) (h : 8 * s.val + b.val < 4096) :
    shapeCast S4096x256 X shapeCasts_S512x8x256_S4096x256 (ix2 ⟨8 * s.val + b.val, h⟩ j) = X (ix3 s b j) := by
  pointwise
  try blk_ext []

/-- The gates' bias with a unit axis in front, read at an index. -/
theorem read_bg (X : FVec Ideal S768 .f32) (k : Fin 768) : shapeCast S1x768 X shapeCasts_S768_S1x768 (ix2 0 k) = X (ix1 k) := by
  pointwise

/-- The cell's bias with a unit axis in front, read at an index. -/
theorem read_bc (X : FVec Ideal S256 .f32) (k : Fin 256) : shapeCast S1x256 X shapeCasts_S256_S1x256 (ix2 0 k) = X (ix1 k) := by
  pointwise

/-- What the kernel finds in its operands, from the arguments. -/
theorem operands (c : Dev nD) (t : Fin cfg0.N) :
    Operands (kargs m c) (iblk m c 0 t) (iblk m c 1 t) (iblk m c 2 t) (iblk m c 3 t) (iblk m c 4 t) (iblk m c 5 t)
      (iblk m c 6 t) (iblk m c 7 t) (iblk m c 8 t) where
  h0 s b j h := (congrFun (block_0 m c t) _).trans (read_x _ s b j h)
  h1 j k := (congrFun (block_1 m c t) _).trans (read_t768 _ j k)
  h2 j k := (congrFun (block_2 m c t) _).trans (read_n768 _ j k)
  h3 j k := (congrFun (block_3 m c t) _).trans (read_n768 _ j k)
  h4 j k := (congrFun (block_4 m c t) _).trans (read_t256 _ j k)
  h5 j k := (congrFun (block_5 m c t) _).trans (read_n256 _ j k)
  h6 j k := (congrFun (block_6 m c t) _).trans (read_n256 _ j k)
  h7 k := (congrFun (block_7 m c t) _).trans (read_bg _ k)
  h8 k := (congrFun (block_8 m c t) _).trans (read_bc _ k)

/-- The output's array after the run. -/
theorem final (c : Dev nD) : (dats m 0 c).arrAt 9 (cfgs 0).N = (kargs m c).out := by
  refine (dats m 0 c).arrAt_eq_of_after_last 9 t0_0 (by decide +kernel) _ fun j => ?_
  blk_simp
  rw [after0_9]
  unfold outsAt0
  rw [out_A c _ _ _ _ _ _ _ _ _ _ _ _ _ _ _ _ _ _ _ _ _ _ _ _ (operands m c t0_0)]

/-- The second result is zero. -/
theorem tail_zero (c : Dev nD) : Pipeline.afterTail₀ cfgs (dats m) 0 (V0 m) [hostOps1] c main_v14 = fun _ => (0 : EReal) := by
  have h : Pipeline.afterTail₀ cfgs (dats m) 0 (V0 m) [hostOps1] c main_v14
      = broadcastInDim S8x256 ![] bcast_S_S8x256 (constant (F := Ideal) S_ .f32 0x00000000#32) := by
    unfold Pipeline.afterTail₀
    simp only [hostOps1, List.flatten_cons, List.flatten_nil, List.append_nil]
    after_results
  rw [h]
  funext i
  pointwise

/-- The kernel's run: the first result is the hidden states, the second zero, the arguments unchanged. -/
theorem run_kernel (ρ : Dev nD → PrngReg) :
    θ_run defs (onTc (τ := τ) (main (F := Ideal))) ⟨m, fun _ => 0, ρ⟩ fun r => ∀ c : Dev nD,
      r.2.mem ((c : Thread nD τ).loc main_v13) = (kargs m c).out
      ∧  r.2.mem ((c : Thread nD τ).loc main_v14) = (fun _ => (0 : EReal))
       ∧  r.2.mem ((c.tc : Thread nD τ).loc main_arg0) = m ((c.tc : Thread nD τ).loc main_arg0)
       ∧  r.2.mem ((c.tc : Thread nD τ).loc main_arg1) = m ((c.tc : Thread nD τ).loc main_arg1)
       ∧  r.2.mem ((c.tc : Thread nD τ).loc main_arg2) = m ((c.tc : Thread nD τ).loc main_arg2)
       ∧  r.2.mem ((c.tc : Thread nD τ).loc main_arg3) = m ((c.tc : Thread nD τ).loc main_arg3)
       ∧  r.2.mem ((c.tc : Thread nD τ).loc main_arg4) = m ((c.tc : Thread nD τ).loc main_arg4)
       ∧  r.2.mem ((c.tc : Thread nD τ).loc main_arg5) = m ((c.tc : Thread nD τ).loc main_arg5)
       ∧  r.2.mem ((c.tc : Thread nD τ).loc main_arg6) = m ((c.tc : Thread nD τ).loc main_arg6)
       ∧  r.2.mem ((c.tc : Thread nD τ).loc main_arg7) = m ((c.tc : Thread nD τ).loc main_arg7)
       ∧  r.2.mem ((c.tc : Thread nD τ).loc main_arg8) = m ((c.tc : Thread nD τ).loc main_arg8)
       ∧  r.2.mem ((c.tc : Thread nD τ).loc main_arg9) = m ((c.tc : Thread nD τ).loc main_arg9)
       ∧  r.2.mem ((c.tc : Thread nD τ).loc main_arg10) = m ((c.tc : Thread nD τ).loc main_arg10) := by
  refine (θ_run defs _ _).mono (fun r h c => ⟨?_, ?_, h.2 c⟩)
    (θ_run_and (run_main m ρ) (unchanged m ρ))
  · exact ((h.1 c).1 9).trans (final m c)
  · exact ((h.1 c).2 main_v14 (by decide)).trans (tail_zero m c)

end Cert.TreeGru

end
-- ==== Proof.Step.lean ====
/- One trip of the reference's loop as standalone definitions: the state a trip hands the next, the values computed
  before the loop (`K_…`), the values of one trip (`b…`, in the body's order), `init` and `step`. -/
module

public import proofs.«01_k».proof.ReferenceIdeal
public import proofs.«01_k».proof.Proof.Gen.ReferenceIdeal

@[expose] public section

noncomputable section

namespace Cert.TreeGru.Step

open Idealize.ShloMosaic Cert.ReferenceIdeal Cert.ReferenceIdeal.Gen

variable {F : FTy → Type} [FloatOps F]

/-- What a trip hands the next. -/
structure State (F : FTy → Type) [FloatOps F] where
  main_v7_14 : (⟨S512x8x256, .f32⟩ : BufTy).Contents (Elt F)
  main_v7_1 : (⟨S512x8x256, .f32⟩ : BufTy).Contents (Elt F)
  main_v7_2 : (⟨S512x8, .i32⟩ : BufTy).Contents (Elt F)
  main_v7_4 : (⟨S512x8, .i1⟩ : BufTy).Contents (Elt F)
  main_v7_5 : (⟨S768x256, .f32⟩ : BufTy).Contents (Elt F)
  main_v7_6 : (⟨S768, .f32⟩ : BufTy).Contents (Elt F)
  main_v7_7 : (⟨S768x256, .f32⟩ : BufTy).Contents (Elt F)
  main_v7_8 : (⟨S768x256, .f32⟩ : BufTy).Contents (Elt F)
  main_v7_9 : (⟨S256x256, .f32⟩ : BufTy).Contents (Elt F)
  main_v7_10 : (⟨S256, .f32⟩ : BufTy).Contents (Elt F)
  main_v7_11 : (⟨S256x256, .f32⟩ : BufTy).Contents (Elt F)
  main_v7_12 : (⟨S256x256, .f32⟩ : BufTy).Contents (Elt F)

/-! What @main computes before the loop without reading an argument. -/

def K_main_v0 : (⟨S8, .i32⟩ : BufTy).Contents (Elt F) := iotaInDim S8 32 0
def K_main_cst : (⟨S_, .f32⟩ : BufTy).Contents (Elt F) := constant S_ .f32 0x00000000#32
def K_main_v1 : (⟨S512x8x256, .f32⟩ : BufTy).Contents (Elt F) := broadcastInDim S512x8x256 ![] bcast_S_S512x8x256 ((K_main_cst (F := F)))
def K_main_v2 : (⟨S512, .i32⟩ : BufTy).Contents (Elt F) := iotaInDim S512 32 0
def K_main_c : (⟨S_, .i32⟩ : BufTy).Contents (Elt F) := constantI S_ 32 4294967295#32
def K_main_v3 : (⟨S512, .i32⟩ : BufTy).Contents (Elt F) := broadcastInDim S512 ![] bcast_S_S512 ((K_main_c (F := F)))
def K_main_v4 : (⟨S512, .i32⟩ : BufTy).Contents (Elt F) := muli ((K_main_v3 (F := F))) ((K_main_v2 (F := F)))
def K_main_c_0 : (⟨S_, .i32⟩ : BufTy).Contents (Elt F) := constantI S_ 32 511#32
def K_main_v5 : (⟨S512, .i32⟩ : BufTy).Contents (Elt F) := broadcastInDim S512 ![] bcast_S_S512 ((K_main_c_0 (F := F)))
def K_main_v6 : (⟨S512, .i32⟩ : BufTy).Contents (Elt F) := addi ((K_main_v5 (F := F))) ((K_main_v4 (F := F)))
def K_main_c_1 : (⟨S_, .i32⟩ : BufTy).Contents (Elt F) := constantI S_ 32 0#32

/-! One trip's values, in the body's order. -/

def b0 (j : ℕ) (s : State F) : (⟨S1, .i32⟩ : BufTy).Contents (Elt F) :=
  Host.dynamicSlice S1 ((K_main_v6 (F := F))) (fun k => (((![(constantI S_ 32 (BitVec.ofNat 32 j) : (⟨S_, .i32⟩ : BufTy).Contents (Elt F))] : Fin 1 → (⟨S_, .i32⟩ : BufTy).Contents (Elt F))) k (Shape.Idx.first h_S_)).toInt) sliceFits_S512_S1
def b1 (j : ℕ) (s : State F) : (⟨S_, .i32⟩ : BufTy).Contents (Elt F) :=
  shapeCast S_ ((b0 j s)) shapeCasts_S1_S_
def b2 (j : ℕ) (s : State F) : (⟨S_, .i32⟩ : BufTy).Contents (Elt F) :=
  constantI S_ 32 0#32
def b3 (j : ℕ) (s : State F) : (⟨S_, .i1⟩ : BufTy).Contents (Elt F) :=
  cmpi .slt ((b1 j s)) ((b2 j s))
def b4 (j : ℕ) (s : State F) : (⟨S_, .i32⟩ : BufTy).Contents (Elt F) :=
  constantI S_ 32 512#32
def b5 (j : ℕ) (s : State F) : (⟨S_, .i32⟩ : BufTy).Contents (Elt F) :=
  addi ((b1 j s)) ((b4 j s))
def b6 (j : ℕ) (s : State F) : (⟨S_, .i32⟩ : BufTy).Contents (Elt F) :=
  select ((b3 j s)) ((b5 j s)) ((b1 j s))
def b7 (j : ℕ) (s : State F) : (⟨S_, .i32⟩ : BufTy).Contents (Elt F) :=
  constantI S_ 32 0#32
def b8 (j : ℕ) (s : State F) : (⟨S_, .i32⟩ : BufTy).Contents (Elt F) :=
  constantI S_ 32 0#32
def b9 (j : ℕ) (s : State F) : (⟨S_, .i1⟩ : BufTy).Contents (Elt F) :=
  cmpi .slt ((b7 j s)) ((b8 j s))
def b10 (j : ℕ) (s : State F) : (⟨S_, .i32⟩ : BufTy).Contents (Elt F) :=
  constantI S_ 32 0#32
def b11 (j : ℕ) (s : State F) : (⟨S_, .i32⟩ : BufTy).Contents (Elt F) :=
  constantI S_ 32 8#32
def b12 (j : ℕ) (s : State F) : (⟨S_, .i32⟩ : BufTy).Contents (Elt F) :=
  addi ((b10 j s)) ((b11 j s))
def b13 (j : ℕ) (s : State F) : (⟨S_, .i32⟩ : BufTy).Contents (Elt F) :=
  constantI S_ 32 0#32
def b14 (j : ℕ) (s : State F) : (⟨S_, .i32⟩ : BufTy).Contents (Elt F) :=
  select ((b9 j s)) ((b12 j s)) ((b13 j s))
def b15 (j : ℕ) (s : State F) : (⟨S_, .i32⟩ : BufTy).Contents (Elt F) :=
  constantI S_ 32 0#32
def b16 (j : ℕ) (s : State F) : (⟨S_, .i32⟩ : BufTy).Contents (Elt F) :=
  constantI S_ 32 0#32
def b17 (j : ℕ) (s : State F) : (⟨S_, .i1⟩ : BufTy).Contents (Elt F) :=
  cmpi .slt ((b15 j s)) ((b16 j s))
def b18 (j : ℕ) (s : State F) : (⟨S_, .i32⟩ : BufTy).Contents (Elt F) :=
  constantI S_ 32 0#32
def b19 (j : ℕ) (s : State F) : (⟨S_, .i32⟩ : BufTy).Contents (Elt F) :=
  constantI S_ 32 256#32
def b20 (j : ℕ) (s : State F) : (⟨S_, .i32⟩ : BufTy).Contents (Elt F) :=
  addi ((b18 j s)) ((b19 j s))
def b21 (j : ℕ) (s : State F) : (⟨S_, .i32⟩ : BufTy).Contents (Elt F) :=
  constantI S_ 32 0#32
def b22 (j : ℕ) (s : State F) : (⟨S_, .i32⟩ : BufTy).Contents (Elt F) :=
  select ((b17 j s)) ((b20 j s)) ((b21 j s))
def b23 (j : ℕ) (s : State F) : (⟨S1x8x256, .f32⟩ : BufTy).Contents (Elt F) :=
  Host.dynamicSlice S1x8x256 (s.main_v7_1) (fun k => (((![(b6 j s), (b14 j s), (b22 j s)] : Fin 3 → (⟨S_, .i32⟩ : BufTy).Contents (Elt F))) k (Shape.Idx.first h_S_)).toInt) sliceFits_S512x8x256_S1x8x256
def b24 (j : ℕ) (s : State F) : (⟨S8x256, .f32⟩ : BufTy).Contents (Elt F) :=
  shapeCast S8x256 ((b23 j s)) shapeCasts_S1x8x256_S8x256
def b25 (j : ℕ) (s : State F) : (⟨S_, .i32⟩ : BufTy).Contents (Elt F) :=
  constantI S_ 32 0#32
def b26 (j : ℕ) (s : State F) : (⟨S_, .i1⟩ : BufTy).Contents (Elt F) :=
  cmpi .slt ((b1 j s)) ((b25 j s))
def b27 (j : ℕ) (s : State F) : (⟨S_, .i32⟩ : BufTy).Contents (Elt F) :=
  constantI S_ 32 512#32
def b28 (j : ℕ) (s : State F) : (⟨S_, .i32⟩ : BufTy).Contents (Elt F) :=
  addi ((b1 j s)) ((b27 j s))
def b29 (j : ℕ) (s : State F) : (⟨S_, .i32⟩ : BufTy).Contents (Elt F) :=
  select ((b26 j s)) ((b28 j s)) ((b1 j s))
def b30 (j : ℕ) (s : State F) : (⟨S_, .i32⟩ : BufTy).Contents (Elt F) :=
  constantI S_ 32 0#32
def b31 (j : ℕ) (s : State F) : (⟨S_, .i32⟩ : BufTy).Contents (Elt F) :=
  constantI S_ 32 0#32
def b32 (j : ℕ) (s : State F) : (⟨S_, .i1⟩ : BufTy).Contents (Elt F) :=
  cmpi .slt ((b30 j s)) ((b31 j s))
def b33 (j : ℕ) (s : State F) : (⟨S_, .i32⟩ : BufTy).Contents (Elt F) :=
  constantI S_ 32 0#32
def b34 (j : ℕ) (s : State F) : (⟨S_, .i32⟩ : BufTy).Contents (Elt F) :=
  constantI S_ 32 8#32
def b35 (j : ℕ) (s : State F) : (⟨S_, .i32⟩ : BufTy).Contents (Elt F) :=
  addi ((b33 j s)) ((b34 j s))
def b36 (j : ℕ) (s : State F) : (⟨S_, .i32⟩ : BufTy).Contents (Elt F) :=
  constantI S_ 32 0#32
def b37 (j : ℕ) (s : State F) : (⟨S_, .i32⟩ : BufTy).Contents (Elt F) :=
  select ((b32 j s)) ((b35 j s)) ((b36 j s))
def b38 (j : ℕ) (s : State F) : (⟨S1x8, .i32⟩ : BufTy).Contents (Elt F) :=
  Host.dynamicSlice S1x8 (s.main_v7_2) (fun k => (((![(b29 j s), (b37 j s)] : Fin 2 → (⟨S_, .i32⟩ : BufTy).Contents (Elt F))) k (Shape.Idx.first h_S_)).toInt) sliceFits_S512x8_S1x8
def b39 (j : ℕ) (s : State F) : (⟨S8, .i32⟩ : BufTy).Contents (Elt F) :=
  shapeCast S8 ((b38 j s)) shapeCasts_S1x8_S8
def b40 (j : ℕ) (s : State F) : (⟨S_, .i32⟩ : BufTy).Contents (Elt F) :=
  constantI S_ 32 0#32
def b41 (j : ℕ) (s : State F) : (⟨S_, .i32⟩ : BufTy).Contents (Elt F) :=
  constantI S_ 32 511#32
def b42 (j : ℕ) (s : State F) : (⟨S_, .i32⟩ : BufTy).Contents (Elt F) := b40 j s
theorem b42_id (j : ℕ) (s : State F) : b42 j s = b40 j s := rfl
def b43 (j : ℕ) (s : State F) : (⟨S8, .i32⟩ : BufTy).Contents (Elt F) :=
  broadcastInDim S8 ![] bcast_S_S8 ((b42 j s))
def b44 (j : ℕ) (s : State F) : (⟨S8, .i32⟩ : BufTy).Contents (Elt F) :=
  maxsi ((b43 j s)) ((b39 j s))
def b45 (j : ℕ) (s : State F) : (⟨S_, .i32⟩ : BufTy).Contents (Elt F) := b41 j s
theorem b45_id (j : ℕ) (s : State F) : b45 j s = b41 j s := rfl
def b46 (j : ℕ) (s : State F) : (⟨S8, .i32⟩ : BufTy).Contents (Elt F) :=
  broadcastInDim S8 ![] bcast_S_S8 ((b45 j s))
def b47 (j : ℕ) (s : State F) : (⟨S8, .i32⟩ : BufTy).Contents (Elt F) :=
  minsi ((b46 j s)) ((b44 j s))
def b48 (j : ℕ) (s : State F) : (⟨S_, .i32⟩ : BufTy).Contents (Elt F) :=
  constantI S_ 32 0#32
def b49 (j : ℕ) (s : State F) : (⟨S8, .i32⟩ : BufTy).Contents (Elt F) :=
  broadcastInDim S8 ![] bcast_S_S8 ((b48 j s))
def b50 (j : ℕ) (s : State F) : (⟨S8, .i1⟩ : BufTy).Contents (Elt F) :=
  cmpi .slt ((b47 j s)) ((b49 j s))
def b51 (j : ℕ) (s : State F) : (⟨S_, .i32⟩ : BufTy).Contents (Elt F) :=
  constantI S_ 32 512#32
def b52 (j : ℕ) (s : State F) : (⟨S8, .i32⟩ : BufTy).Contents (Elt F) :=
  broadcastInDim S8 ![] bcast_S_S8 ((b51 j s))
def b53 (j : ℕ) (s : State F) : (⟨S8, .i32⟩ : BufTy).Contents (Elt F) :=
  addi ((b47 j s)) ((b52 j s))
def b54 (j : ℕ) (s : State F) : (⟨S8, .i32⟩ : BufTy).Contents (Elt F) :=
  select ((b50 j s)) ((b53 j s)) ((b47 j s))
def b55 (j : ℕ) (s : State F) : (⟨S_, .i32⟩ : BufTy).Contents (Elt F) :=
  constantI S_ 32 0#32
def b56 (j : ℕ) (s : State F) : (⟨S8, .i32⟩ : BufTy).Contents (Elt F) :=
  broadcastInDim S8 ![] bcast_S_S8 ((b55 j s))
def b57 (j : ℕ) (s : State F) : (⟨S8, .i1⟩ : BufTy).Contents (Elt F) :=
  cmpi .slt ((K_main_v0 (F := F))) ((b56 j s))
def b58 (j : ℕ) (s : State F) : (⟨S_, .i32⟩ : BufTy).Contents (Elt F) :=
  constantI S_ 32 8#32
def b59 (j : ℕ) (s : State F) : (⟨S8, .i32⟩ : BufTy).Contents (Elt F) :=
  broadcastInDim S8 ![] bcast_S_S8 ((b58 j s))
def b60 (j : ℕ) (s : State F) : (⟨S8, .i32⟩ : BufTy).Contents (Elt F) :=
  addi ((K_main_v0 (F := F))) ((b59 j s))
def b61 (j : ℕ) (s : State F) : (⟨S8, .i32⟩ : BufTy).Contents (Elt F) :=
  select ((b57 j s)) ((b60 j s)) ((K_main_v0 (F := F)))
def b62 (j : ℕ) (s : State F) : (⟨S8x1, .i32⟩ : BufTy).Contents (Elt F) :=
  broadcastInDim S8x1 ![0] bcast_S8_S8x1_0 ((b54 j s))
def b63 (j : ℕ) (s : State F) : (⟨S8x1, .i32⟩ : BufTy).Contents (Elt F) :=
  broadcastInDim S8x1 ![0] bcast_S8_S8x1_0 ((b61 j s))
def b64 (j : ℕ) (s : State F) : (⟨S8x2, .i32⟩ : BufTy).Contents (Elt F) :=
  concatenate S8x2 1 [⟨S8x1, ((b62 j s))⟩, ⟨S8x1, ((b63 j s))⟩] concatenates_S8x1_S8x1_S8x2_d1
def b65 (j : ℕ) (s : State F) : (⟨S8x256, .f32⟩ : BufTy).Contents (Elt F) :=
  Host.gather gather_S512x8x256_S8x2_S8x256_1_01_n_n_01_1_11256 (s.main_v7_14) ((b64 j s))
def b66 (j : ℕ) (s : State F) : (⟨S_, .i32⟩ : BufTy).Contents (Elt F) :=
  constantI S_ 32 0#32
def b67 (j : ℕ) (s : State F) : (⟨S8, .i32⟩ : BufTy).Contents (Elt F) :=
  broadcastInDim S8 ![] bcast_S_S8 ((b66 j s))
def b68 (j : ℕ) (s : State F) : (⟨S8, .i1⟩ : BufTy).Contents (Elt F) :=
  cmpi .sge ((b39 j s)) ((b67 j s))
def b69 (j : ℕ) (s : State F) : (⟨S8x1, .i1⟩ : BufTy).Contents (Elt F) :=
  broadcastInDim S8x1 ![0] bcast_S8_S8x1_0 ((b68 j s))
def b70 (j : ℕ) (s : State F) : (⟨S_, .i32⟩ : BufTy).Contents (Elt F) :=
  constantI S_ 32 0#32
def b71 (j : ℕ) (s : State F) : (⟨S_, .i1⟩ : BufTy).Contents (Elt F) :=
  cmpi .slt ((b1 j s)) ((b70 j s))
def b72 (j : ℕ) (s : State F) : (⟨S_, .i32⟩ : BufTy).Contents (Elt F) :=
  constantI S_ 32 512#32
def b73 (j : ℕ) (s : State F) : (⟨S_, .i32⟩ : BufTy).Contents (Elt F) :=
  addi ((b1 j s)) ((b72 j s))
def b74 (j : ℕ) (s : State F) : (⟨S_, .i32⟩ : BufTy).Contents (Elt F) :=
  select ((b71 j s)) ((b73 j s)) ((b1 j s))
def b75 (j : ℕ) (s : State F) : (⟨S_, .i32⟩ : BufTy).Contents (Elt F) :=
  constantI S_ 32 0#32
def b76 (j : ℕ) (s : State F) : (⟨S_, .i32⟩ : BufTy).Contents (Elt F) :=
  constantI S_ 32 0#32
def b77 (j : ℕ) (s : State F) : (⟨S_, .i1⟩ : BufTy).Contents (Elt F) :=
  cmpi .slt ((b75 j s)) ((b76 j s))
def b78 (j : ℕ) (s : State F) : (⟨S_, .i32⟩ : BufTy).Contents (Elt F) :=
  constantI S_ 32 0#32
def b79 (j : ℕ) (s : State F) : (⟨S_, .i32⟩ : BufTy).Contents (Elt F) :=
  constantI S_ 32 8#32
def b80 (j : ℕ) (s : State F) : (⟨S_, .i32⟩ : BufTy).Contents (Elt F) :=
  addi ((b78 j s)) ((b79 j s))
def b81 (j : ℕ) (s : State F) : (⟨S_, .i32⟩ : BufTy).Contents (Elt F) :=
  constantI S_ 32 0#32
def b82 (j : ℕ) (s : State F) : (⟨S_, .i32⟩ : BufTy).Contents (Elt F) :=
  select ((b77 j s)) ((b80 j s)) ((b81 j s))
def b83 (j : ℕ) (s : State F) : (⟨S1x8, .i1⟩ : BufTy).Contents (Elt F) :=
  Host.dynamicSlice S1x8 (s.main_v7_4) (fun k => (((![(b74 j s), (b82 j s)] : Fin 2 → (⟨S_, .i32⟩ : BufTy).Contents (Elt F))) k (Shape.Idx.first h_S_)).toInt) sliceFits_S512x8_S1x8
def b84 (j : ℕ) (s : State F) : (⟨S8, .i1⟩ : BufTy).Contents (Elt F) :=
  shapeCast S8 ((b83 j s)) shapeCasts_S1x8_S8
def b85 (j : ℕ) (s : State F) : (⟨S8x1, .i1⟩ : BufTy).Contents (Elt F) :=
  broadcastInDim S8x1 ![0] bcast_S8_S8x1_0 ((b84 j s))
def b86 (j : ℕ) (s : State F) : (⟨S8x1, .i1⟩ : BufTy).Contents (Elt F) :=
  andi ((b69 j s)) ((b85 j s))
def b87 (j : ℕ) (s : State F) : (⟨S_, .f32⟩ : BufTy).Contents (Elt F) :=
  constant S_ .f32 0x00000000#32
def b88 (j : ℕ) (s : State F) : (⟨S_, .f32⟩ : BufTy).Contents (Elt F) := b87 j s
theorem b88_id (j : ℕ) (s : State F) : b88 j s = b87 j s := rfl
def b89 (j : ℕ) (s : State F) : (⟨S8x256, .i1⟩ : BufTy).Contents (Elt F) :=
  broadcastInDim S8x256 ![0, 1] bcast_S8x1_S8x256_0_1 ((b86 j s))
def b90 (j : ℕ) (s : State F) : (⟨S8x256, .f32⟩ : BufTy).Contents (Elt F) :=
  broadcastInDim S8x256 ![] bcast_S_S8x256 ((b88 j s))
def b91 (j : ℕ) (s : State F) : (⟨S8x256, .f32⟩ : BufTy).Contents (Elt F) :=
  select ((b89 j s)) ((b65 j s)) ((b90 j s))
def b92 (j : ℕ) (s : State F) : (⟨S8x1, .i1⟩ : BufTy).Contents (Elt F) :=
  noti ((b85 j s))
def b93 (j : ℕ) (s : State F) : (⟨S8x1, .i1⟩ : BufTy).Contents (Elt F) :=
  andi ((b69 j s)) ((b92 j s))
def b94 (j : ℕ) (s : State F) : (⟨S_, .f32⟩ : BufTy).Contents (Elt F) :=
  constant S_ .f32 0x00000000#32
def b95 (j : ℕ) (s : State F) : (⟨S_, .f32⟩ : BufTy).Contents (Elt F) := b94 j s
theorem b95_id (j : ℕ) (s : State F) : b95 j s = b94 j s := rfl
def b96 (j : ℕ) (s : State F) : (⟨S8x256, .i1⟩ : BufTy).Contents (Elt F) :=
  broadcastInDim S8x256 ![0, 1] bcast_S8x1_S8x256_0_1 ((b93 j s))
def b97 (j : ℕ) (s : State F) : (⟨S8x256, .f32⟩ : BufTy).Contents (Elt F) :=
  broadcastInDim S8x256 ![] bcast_S_S8x256 ((b95 j s))
def b98 (j : ℕ) (s : State F) : (⟨S8x256, .f32⟩ : BufTy).Contents (Elt F) :=
  select ((b96 j s)) ((b65 j s)) ((b97 j s))
def b99 (j : ℕ) (s : State F) : (⟨S256x768, .f32⟩ : BufTy).Contents (Elt F) :=
  transpose S256x768 [1, 0] (s.main_v7_5) transposes_S768x256_S256x768_1_0
def b100 (j : ℕ) (s : State F) : (⟨S8x768, .f32⟩ : BufTy).Contents (Elt F) :=
  Host.dotGeneral dot_S8x256_S256x768_S8x768_1_0_0_1_n_n none ((b24 j s)) ((b99 j s))
def b101 (j : ℕ) (s : State F) : (⟨S1x768, .f32⟩ : BufTy).Contents (Elt F) :=
  broadcastInDim S1x768 ![1] bcast_S768_S1x768_1 (s.main_v7_6)
def b102 (j : ℕ) (s : State F) : (⟨S8x768, .f32⟩ : BufTy).Contents (Elt F) :=
  broadcastInDim S8x768 ![0, 1] bcast_S1x768_S8x768_0_1 ((b101 j s))
def b103 (j : ℕ) (s : State F) : (⟨S8x768, .f32⟩ : BufTy).Contents (Elt F) :=
  addf ((b100 j s)) ((b102 j s))
def b104 (j : ℕ) (s : State F) : (⟨S256x768, .f32⟩ : BufTy).Contents (Elt F) :=
  transpose S256x768 [1, 0] (s.main_v7_7) transposes_S768x256_S256x768_1_0
def b105 (j : ℕ) (s : State F) : (⟨S8x768, .f32⟩ : BufTy).Contents (Elt F) :=
  Host.dotGeneral dot_S8x256_S256x768_S8x768_1_0_0_1_n_n none ((b91 j s)) ((b104 j s))
def b106 (j : ℕ) (s : State F) : (⟨S8x768, .f32⟩ : BufTy).Contents (Elt F) :=
  addf ((b103 j s)) ((b105 j s))
def b107 (j : ℕ) (s : State F) : (⟨S256x768, .f32⟩ : BufTy).Contents (Elt F) :=
  transpose S256x768 [1, 0] (s.main_v7_8) transposes_S768x256_S256x768_1_0
def b108 (j : ℕ) (s : State F) : (⟨S8x768, .f32⟩ : BufTy).Contents (Elt F) :=
  Host.dotGeneral dot_S8x256_S256x768_S8x768_1_0_0_1_n_n none ((b98 j s)) ((b107 j s))
def b109 (j : ℕ) (s : State F) : (⟨S8x768, .f32⟩ : BufTy).Contents (Elt F) :=
  addf ((b106 j s)) ((b108 j s))
def b110 (j : ℕ) (s : State F) : (⟨S8x768, .f32⟩ : BufTy).Contents (Elt F) :=
  Host.negf ((b109 j s))
def b111 (j : ℕ) (s : State F) : (⟨S8x768, .f32⟩ : BufTy).Contents (Elt F) :=
  Host.exp ((b110 j s))
def b112 (j : ℕ) (s : State F) : (⟨S_, .f32⟩ : BufTy).Contents (Elt F) :=
  constant S_ .f32 0x3F800000#32
def b113 (j : ℕ) (s : State F) : (⟨S8x768, .f32⟩ : BufTy).Contents (Elt F) :=
  broadcastInDim S8x768 ![] bcast_S_S8x768 ((b112 j s))
def b114 (j : ℕ) (s : State F) : (⟨S8x768, .f32⟩ : BufTy).Contents (Elt F) :=
  addf ((b113 j s)) ((b111 j s))
def b115 (j : ℕ) (s : State F) : (⟨S_, .f32⟩ : BufTy).Contents (Elt F) :=
  constant S_ .f32 0x3F800000#32
def b116 (j : ℕ) (s : State F) : (⟨S8x768, .f32⟩ : BufTy).Contents (Elt F) :=
  broadcastInDim S8x768 ![] bcast_S_S8x768 ((b115 j s))
def b117 (j : ℕ) (s : State F) : (⟨S8x768, .f32⟩ : BufTy).Contents (Elt F) :=
  Host.divf ((b116 j s)) ((b114 j s))
def b118 (j : ℕ) (s : State F) : (⟨S8x256, .f32⟩ : BufTy).Contents (Elt F) :=
  extractStridedSlice S8x256 ![0, 0] ((b117 j s)) slices_S8x768_S8x256_0_0
def b119 (j : ℕ) (s : State F) : (⟨S8x256, .f32⟩ : BufTy).Contents (Elt F) :=
  extractStridedSlice S8x256 ![0, 256] ((b117 j s)) slices_S8x768_S8x256_0_256
def b120 (j : ℕ) (s : State F) : (⟨S8x256, .f32⟩ : BufTy).Contents (Elt F) :=
  extractStridedSlice S8x256 ![0, 512] ((b117 j s)) slices_S8x768_S8x256_0_512
def b121 (j : ℕ) (s : State F) : (⟨S256x256, .f32⟩ : BufTy).Contents (Elt F) :=
  transpose S256x256 [1, 0] (s.main_v7_9) transposes_S256x256_S256x256_1_0
def b122 (j : ℕ) (s : State F) : (⟨S8x256, .f32⟩ : BufTy).Contents (Elt F) :=
  Host.dotGeneral dot_S8x256_S256x256_S8x256_1_0_0_1_n_n none ((b24 j s)) ((b121 j s))
def b123 (j : ℕ) (s : State F) : (⟨S1x256, .f32⟩ : BufTy).Contents (Elt F) :=
  broadcastInDim S1x256 ![1] bcast_S256_S1x256_1 (s.main_v7_10)
def b124 (j : ℕ) (s : State F) : (⟨S8x256, .f32⟩ : BufTy).Contents (Elt F) :=
  broadcastInDim S8x256 ![0, 1] bcast_S1x256_S8x256_0_1 ((b123 j s))
def b125 (j : ℕ) (s : State F) : (⟨S8x256, .f32⟩ : BufTy).Contents (Elt F) :=
  addf ((b122 j s)) ((b124 j s))
def b126 (j : ℕ) (s : State F) : (⟨S8x256, .f32⟩ : BufTy).Contents (Elt F) :=
  mulf ((b118 j s)) ((b91 j s))
def b127 (j : ℕ) (s : State F) : (⟨S256x256, .f32⟩ : BufTy).Contents (Elt F) :=
  transpose S256x256 [1, 0] (s.main_v7_11) transposes_S256x256_S256x256_1_0
def b128 (j : ℕ) (s : State F) : (⟨S8x256, .f32⟩ : BufTy).Contents (Elt F) :=
  Host.dotGeneral dot_S8x256_S256x256_S8x256_1_0_0_1_n_n none ((b126 j s)) ((b127 j s))
def b129 (j : ℕ) (s : State F) : (⟨S8x256, .f32⟩ : BufTy).Contents (Elt F) :=
  addf ((b125 j s)) ((b128 j s))
def b130 (j : ℕ) (s : State F) : (⟨S8x256, .f32⟩ : BufTy).Contents (Elt F) :=
  mulf ((b118 j s)) ((b98 j s))
def b131 (j : ℕ) (s : State F) : (⟨S256x256, .f32⟩ : BufTy).Contents (Elt F) :=
  transpose S256x256 [1, 0] (s.main_v7_12) transposes_S256x256_S256x256_1_0
def b132 (j : ℕ) (s : State F) : (⟨S8x256, .f32⟩ : BufTy).Contents (Elt F) :=
  Host.dotGeneral dot_S8x256_S256x256_S8x256_1_0_0_1_n_n none ((b130 j s)) ((b131 j s))
def b133 (j : ℕ) (s : State F) : (⟨S8x256, .f32⟩ : BufTy).Contents (Elt F) :=
  addf ((b129 j s)) ((b132 j s))
def b134 (j : ℕ) (s : State F) : (⟨S8x256, .f32⟩ : BufTy).Contents (Elt F) :=
  Host.tanh ((b133 j s))
def b135 (j : ℕ) (s : State F) : (⟨S8x256, .f32⟩ : BufTy).Contents (Elt F) :=
  addf ((b91 j s)) ((b98 j s))
def b136 (j : ℕ) (s : State F) : (⟨S8x256, .f32⟩ : BufTy).Contents (Elt F) :=
  mulf ((b119 j s)) ((b135 j s))
def b137 (j : ℕ) (s : State F) : (⟨S8x256, .f32⟩ : BufTy).Contents (Elt F) :=
  mulf ((b120 j s)) ((b134 j s))
def b138 (j : ℕ) (s : State F) : (⟨S8x256, .f32⟩ : BufTy).Contents (Elt F) :=
  addf ((b136 j s)) ((b137 j s))
def b139 (j : ℕ) (s : State F) : (⟨S_, .i32⟩ : BufTy).Contents (Elt F) :=
  constantI S_ 32 0#32
def b140 (j : ℕ) (s : State F) : (⟨S_, .i1⟩ : BufTy).Contents (Elt F) :=
  cmpi .slt ((b1 j s)) ((b139 j s))
def b141 (j : ℕ) (s : State F) : (⟨S_, .i32⟩ : BufTy).Contents (Elt F) :=
  constantI S_ 32 512#32
def b142 (j : ℕ) (s : State F) : (⟨S_, .i32⟩ : BufTy).Contents (Elt F) :=
  addi ((b1 j s)) ((b141 j s))
def b143 (j : ℕ) (s : State F) : (⟨S_, .i32⟩ : BufTy).Contents (Elt F) :=
  select ((b140 j s)) ((b142 j s)) ((b1 j s))
def b144 (j : ℕ) (s : State F) : (⟨S1, .i32⟩ : BufTy).Contents (Elt F) :=
  broadcastInDim S1 ![] bcast_S_S1 ((b143 j s))
def b145 (j : ℕ) (s : State F) : (⟨S512x8x256, .f32⟩ : BufTy).Contents (Elt F) :=
  Host.scatter scatter_S512x8x256_S1_S8x256_01_0_0_0 (fun _ b => b) (s.main_v7_14) ((b144 j s)) ((b138 j s))

/-- The state @main hands the first trip, of the arguments it copies in. -/
def init (main_arg0 : (⟨S512x8x256, .f32⟩ : BufTy).Contents (Elt F)) (main_arg1 : (⟨S512x8, .i32⟩ : BufTy).Contents (Elt F)) (main_arg2 : (⟨S512x8, .i1⟩ : BufTy).Contents (Elt F)) (main_arg3 : (⟨S768x256, .f32⟩ : BufTy).Contents (Elt F)) (main_arg4 : (⟨S768, .f32⟩ : BufTy).Contents (Elt F)) (main_arg5 : (⟨S768x256, .f32⟩ : BufTy).Contents (Elt F)) (main_arg6 : (⟨S768x256, .f32⟩ : BufTy).Contents (Elt F)) (main_arg7 : (⟨S256x256, .f32⟩ : BufTy).Contents (Elt F)) (main_arg8 : (⟨S256, .f32⟩ : BufTy).Contents (Elt F)) (main_arg9 : (⟨S256x256, .f32⟩ : BufTy).Contents (Elt F)) (main_arg10 : (⟨S256x256, .f32⟩ : BufTy).Contents (Elt F)) : State F :=
  { main_v7_14 := K_main_v1 (F := F), main_v7_1 := main_arg0, main_v7_2 := main_arg1, main_v7_4 := main_arg2, main_v7_5 := main_arg3, main_v7_6 := main_arg4, main_v7_7 := main_arg5, main_v7_8 := main_arg6, main_v7_9 := main_arg7, main_v7_10 := main_arg8, main_v7_11 := main_arg9, main_v7_12 := main_arg10 }

/-- One trip. -/
def step (j : ℕ) (s : State F) : State F :=
  { main_v7_14 := b145 j s, main_v7_1 := s.main_v7_1, main_v7_2 := s.main_v7_2, main_v7_4 := s.main_v7_4, main_v7_5 := s.main_v7_5, main_v7_6 := s.main_v7_6, main_v7_7 := s.main_v7_7, main_v7_8 := s.main_v7_8, main_v7_9 := s.main_v7_9, main_v7_10 := s.main_v7_10, main_v7_11 := s.main_v7_11, main_v7_12 := s.main_v7_12 }
/-- After a trip the stored states are the trip's scatter. -/
theorem step_main_v7_14 (j : ℕ) (s : State F) : (step j s).main_v7_14 = b145 j s := by simp only [step]

/-- `main_v8`, which the operations after the loop make, of the loop's last state. -/
def R_main_v8 (s : State F) : (⟨S8x512x256, .f32⟩ : BufTy).Contents (Elt F) :=
  transpose S8x512x256 [1, 0, 2] (s.main_v7_14) transposes_S512x8x256_S8x512x256_1_0_2

/-- `main_v9`, which the operations after the loop make, of the loop's last state. -/
def R_main_v9 (s : State F) : (⟨S8x256, .f32⟩ : BufTy).Contents (Elt F) :=
  broadcastInDim S8x256 ![] bcast_S_S8x256 (constant S_ .f32 0x00000000#32)

end Cert.TreeGru.Step

end
-- ==== Proof.RefStep.lean ====
/- The arithmetic of one trip of the reference's loop: the new states are a step of the recurrence, whichever of the two
   parent states is the zero one. -/
module

public import proofs.«01_k».proof.Proof.Spec
public import proofs.«01_k».proof.Proof.Step

@[expose] public section

set_option maxRecDepth 16384

noncomputable section

namespace Cert.TreeGru

open Idealize.ShloMosaic Cert.ReferenceIdeal Cert.ReferenceIdeal.Gen Step

/-- The loop's state holds the float arguments. -/
structure Holds (A : Args) (s : State Ideal) : Prop where
  x : s.main_v7_1 = A.x
  wg : s.main_v7_5 = A.wg
  bg : s.main_v7_6 = A.bg
  wgl : s.main_v7_7 = A.wgl
  wgr : s.main_v7_8 = A.wgr
  wc : s.main_v7_9 = A.wc
  bc : s.main_v7_10 = A.bc
  wcl : s.main_v7_11 = A.wcl
  wcr : s.main_v7_12 = A.wcr

variable {A : Args} {s : State Ideal}

/-- The gates before the logistic function, read at an index. -/
theorem b109_apply (H : Holds A s) (n : ℕ) (b : Fin 8) (k : Fin 768) :
    b109 n s (ix2 b k)
      = (((∑ j : Fin 256, b24 n s (ix2 b j) * A.wg (ix2 k j)) + A.bg (ix1 k))
          + ∑ j : Fin 256, b91 n s (ix2 b j) * A.wgl (ix2 k j))
        + ∑ j : Fin 256, b98 n s (ix2 b j) * A.wgr (ix2 k j) := by
  rw [← H.wg, ← H.bg, ← H.wgl, ← H.wgr]
  pointwise [b109, b108, b107, b106, b105, b104, b103, b102, b101, b100, b99]

/-- The gates, read at an index. -/
theorem b117_apply (n : ℕ) (b : Fin 8) (k : Fin 768) :
    b117 n s (ix2 b k) = Ideal.logistic (b109 n s (ix2 b k)) := by
  pointwise [b117, b116, b115, b114, b113, b112, b111, b110]
  unfold Ideal.logistic
  simp only [Ideal.ofBits_one_f32]

/-- The cell before the hyperbolic tangent, read at an index. -/
theorem b133_apply (H : Holds A s) (n : ℕ) (b : Fin 8) (k : Fin 256) :
    b133 n s (ix2 b k)
      = (((∑ j : Fin 256, b24 n s (ix2 b j) * A.wc (ix2 k j)) + A.bc (ix1 k))
          + ∑ j : Fin 256, (b117 n s (ix2 b ⟨0 + j.val, by omega⟩) * b91 n s (ix2 b j)) * A.wcl (ix2 k j))
        + ∑ j : Fin 256, (b117 n s (ix2 b ⟨0 + j.val, by omega⟩) * b98 n s (ix2 b j)) * A.wcr (ix2 k j) := by
  rw [← H.wc, ← H.bc, ← H.wcl, ← H.wcr]
  pointwise [b133, b132, b131, b130, b129, b128, b127, b126, b125, b124, b123, b122, b121, b118]

/-- The new state, read at an index. -/
theorem b138_apply (n : ℕ) (b : Fin 8) (k : Fin 256) :
    b138 n s (ix2 b k)
      = b117 n s (ix2 b ⟨256 + k.val, by omega⟩) * (b91 n s (ix2 b k) + b98 n s (ix2 b k))
        + b117 n s (ix2 b ⟨512 + k.val, by omega⟩) * Ideal.tanh (b133 n s (ix2 b k)) := by
  pointwise [b138, b137, b136, b135, b134, b120, b119]

/-- The new state where the left parent state is zero. -/
theorem b138_right (H : Holds A s) (n : ℕ) (nd : Fin 512) (b : Fin 8) (p : Fin 256 → EReal)
    (hx : ∀ j, b24 n s (ix2 b j) = A.x (ix3 nd b j)) (hl : ∀ j, b91 n s (ix2 b j) = (0 : EReal))
    (hr : ∀ j, b98 n s (ix2 b j) = p j) (k : Fin 256) : b138 n s (ix2 b k) = A.right nd b p k := by
  have hg : ∀ k : Fin 768, b117 n s (ix2 b k) = gate (A.xg nd b) (fun j k => A.wgr (ix2 k j)) p k := fun k => by
    rw [b117_apply, b109_apply H]
    unfold gate Args.xg
    simp only [hx, hl, hr, zero_mul, Finset.sum_const_zero, add_zero]
  rw [b138_apply, b133_apply H]
  unfold Args.right cell gateAt Args.xc
  simp only [hx, hl, hr, hg, zero_mul, mul_zero, Finset.sum_const_zero, add_zero, zero_add]

/-- The new state where the right parent state is zero. -/
theorem b138_left (H : Holds A s) (n : ℕ) (nd : Fin 512) (b : Fin 8) (p : Fin 256 → EReal)
    (hx : ∀ j, b24 n s (ix2 b j) = A.x (ix3 nd b j)) (hl : ∀ j, b91 n s (ix2 b j) = p j)
    (hr : ∀ j, b98 n s (ix2 b j) = (0 : EReal)) (k : Fin 256) : b138 n s (ix2 b k) = A.left nd b p k := by
  have hg : ∀ k : Fin 768, b117 n s (ix2 b k) = gate (A.xg nd b) (fun j k => A.wgl (ix2 k j)) p k := fun k => by
    rw [b117_apply, b109_apply H]
    unfold gate Args.xg
    simp only [hx, hl, hr, zero_mul, Finset.sum_const_zero, add_zero]
  rw [b138_apply, b133_apply H]
  unfold Args.left cell gateAt Args.xc
  simp only [hx, hl, hr, hg, zero_mul, mul_zero, Finset.sum_const_zero, add_zero, zero_add]

end Cert.TreeGru

end
-- ==== Proof.RefIndex.lean ====
/- The indexing of one trip of the reference's loop: which row it reads of each argument, which states it gathers and
   where it writes the new ones. -/
module

public import proofs.«01_k».proof.Proof.RefStep
public import Idealize.ShloMosaic.Lib.DynamicIndex
public import Idealize.ShloMosaic.Lib.Routing.OpsSet

@[expose] public section

set_option maxRecDepth 16384

noncomputable section

namespace Cert.TreeGru

open Idealize.ShloMosaic Cert.ReferenceIdeal Cert.ReferenceIdeal.Gen Step

/-- Where an update of the scatter lands: at its own row and column of the node that the index names. -/
theorem lands_node (idx : IVec S1 32) (r : Fin 512) (hidx : (idx (ix1 0)).toInt = (r.val : Int)) (b' b : Fin 8)
    (k' k : Fin 256) (e : Fin 512) :
    scatter_S512x8x256_S1_S8x256_01_0_0_0.resultIdx? (ix2 b' k') idx = some (ix3 e b k) ↔ b' = b ∧ k' = k ∧ e = r := by
  rw [Routing.resultIdx?_eq_some]
  have h0 : scatter_S512x8x256_S1_S8x256_01_0_0_0.start (ix2 b' k') idx 0
      + scatter_S512x8x256_S1_S8x256_01_0_0_0.window (ix2 b' k') 0 = (r.val : Int) := by
    rw [← hidx]
    have hs : scatter_S512x8x256_S1_S8x256_01_0_0_0.start (ix2 b' k') idx 0 = (idx (ix1 0)).toInt := by
      unfold ScatterDims.start
      rw [dif_pos (show (0 : Fin 3) ∈ scatter_S512x8x256_S1_S8x256_01_0_0_0.scatterDimsToOperandDims from List.mem_singleton.2 rfl)]
      congr 2
      funext a
      match a with
      | ⟨0, _⟩ => exact Subsingleton.elim (α := Fin 1) _ _
    have hw : scatter_S512x8x256_S1_S8x256_01_0_0_0.window (ix2 b' k') 0 = 0 := rfl
    rw [hs, hw]
    omega
  have h1 : scatter_S512x8x256_S1_S8x256_01_0_0_0.start (ix2 b' k') idx 1
      + scatter_S512x8x256_S1_S8x256_01_0_0_0.window (ix2 b' k') 1 = (b'.val : Int) := by
    have hs : scatter_S512x8x256_S1_S8x256_01_0_0_0.start (ix2 b' k') idx 1 = 0 := rfl
    have hw : scatter_S512x8x256_S1_S8x256_01_0_0_0.window (ix2 b' k') 1 = b'.val := rfl
    rw [hs, hw]
    omega
  have h2 : scatter_S512x8x256_S1_S8x256_01_0_0_0.start (ix2 b' k') idx 2
      + scatter_S512x8x256_S1_S8x256_01_0_0_0.window (ix2 b' k') 2 = (k'.val : Int) := by
    have hs : scatter_S512x8x256_S1_S8x256_01_0_0_0.start (ix2 b' k') idx 2 = 0 := rfl
    have hw : scatter_S512x8x256_S1_S8x256_01_0_0_0.window (ix2 b' k') 2 = k'.val := rfl
    rw [hs, hw]
    omega
  constructor
  · intro h
    have e0 := h0.symm.trans (h 0)
    have e1 := h1.symm.trans (h 1)
    have e2 := h2.symm.trans (h 2)
    refine ⟨Fin.ext ?_, Fin.ext ?_, Fin.ext ?_⟩
    · exact Int.ofNat.inj e1
    · exact Int.ofNat.inj e2
    · exact (Int.ofNat.inj e0).symm
  · rintro ⟨rfl, rfl, rfl⟩ a
    match a with
    | ⟨0, _⟩ => exact h0
    | ⟨1, _⟩ => exact h1
    | ⟨2, _⟩ => exact h2

/-- The scatter read at an index: the updates at the node that the index names, the operand elsewhere. -/
theorem scatter_node {α : Type} (x : S512x8x256.Idx → α) (idx : IVec S1 32) (upd : S8x256.Idx → α) (r : Fin 512)
    (hidx : (idx (ix1 0)).toInt = (r.val : Int)) (e : Fin 512) (b : Fin 8) (k : Fin 256) :
    Host.scatter scatter_S512x8x256_S1_S8x256_01_0_0_0 (fun _ b => b) x idx upd (ix3 e b k)
      = if e = r then upd (ix2 b k) else x (ix3 e b k) := by
  have hix : ∀ j : S8x256.Idx, j = ix2 (j 0) (j 1) := fun j => funext fun a => by fin_cases a <;> rfl
  have lands : ∀ j : S8x256.Idx, scatter_S512x8x256_S1_S8x256_01_0_0_0.resultIdx? j idx = some (ix3 e b k) →
      (j 0 : Fin 8) = b ∧ (j 1 : Fin 256) = k ∧ e = r := fun j hj =>
    (lands_node idx r hidx (j 0) b (j 1) k e).1
      ((congrArg (fun t => scatter_S512x8x256_S1_S8x256_01_0_0_0.resultIdx? t idx) (hix j).symm).trans hj)
  by_cases h : e = r
  · rw [if_pos h]
    refine Routing.scatter_set_hit _ x idx upd _ _ (fun j hj => ?_) (ix2 b k) ((lands_node idx r hidx b b k k e).2 ⟨rfl, rfl, h⟩)
    obtain ⟨h0, h1, _⟩ := lands j hj
    rw [hix j, h0, h1]
    rfl
  · rw [if_neg h]
    exact Routing.scatter_set_miss _ x idx upd _ fun j hj => h (lands j hj).2.2

/-- The gather read at an index: the operand at the node and the row that the indices name, each clamped. -/
theorem gather_node {α : Type} (x : S512x8x256.Idx → α) (idx : IVec S8x2 32) (b : Fin 8) (k : Fin 256) :
    Host.gather gather_S512x8x256_S8x2_S8x256_1_01_n_n_01_1_11256 x idx (ix2 b k)
      = x (ix3 ⟨min (idx (ix2 b 0)).toInt.toNat 511, by omega⟩ ⟨min (idx (ix2 b 1)).toInt.toNat 7, by omega⟩ k) := by
  unfold Host.gather
  congr 1
  funext a
  refine Fin.ext ?_
  show gather_S512x8x256_S8x2_S8x256_1_01_n_n_01_1_11256.start (ix2 b k) idx a
      + gather_S512x8x256_S8x2_S8x256_1_01_n_n_01_1_11256.batchCoord (ix2 b k) a
      + gather_S512x8x256_S8x2_S8x256_1_01_n_n_01_1_11256.offCoord (ix2 b k) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · show _ + 0 + 0 = _
    unfold GatherDims.start
    rw [dif_pos (show (0 : Fin 3) ∈ gather_S512x8x256_S8x2_S8x256_1_01_n_n_01_1_11256.startIndexMap from by decide)]
    simp only [Nat.add_zero]
    have hsi : gather_S512x8x256_S8x2_S8x256_1_01_n_n_01_1_11256.siIdx (ix2 b k)
        ⟨List.idxOf (0 : Fin 3) gather_S512x8x256_S8x2_S8x256_1_01_n_n_01_1_11256.startIndexMap,
          List.idxOf_lt_length_iff.2 (by decide)⟩ = ix2 b 0 := by
      funext c; refine Fin.ext ?_
      match c with
      | ⟨0, _⟩ => rfl
      | ⟨1, _⟩ => rfl
    rw [hsi]
    rfl
  · show _ + 0 + 0 = _
    unfold GatherDims.start
    rw [dif_pos (show (1 : Fin 3) ∈ gather_S512x8x256_S8x2_S8x256_1_01_n_n_01_1_11256.startIndexMap from by decide)]
    simp only [Nat.add_zero]
    have hsi : gather_S512x8x256_S8x2_S8x256_1_01_n_n_01_1_11256.siIdx (ix2 b k)
        ⟨List.idxOf (1 : Fin 3) gather_S512x8x256_S8x2_S8x256_1_01_n_n_01_1_11256.startIndexMap,
          List.idxOf_lt_length_iff.2 (by decide)⟩ = ix2 b 1 := by
      funext c; refine Fin.ext ?_
      match c with
      | ⟨0, _⟩ => rfl
      | ⟨1, _⟩ => rfl
    rw [hsi]
    rfl
  · show 0 + 0 + _ = _
    simp only [Nat.zero_add]
    rfl

/-! ## Words -/

/-- The step's index, counted from the last node down. -/
theorem word_step : ∀ n : Fin 512, IntOp.addi 511#32 (IntOp.muli 4294967295#32 (BitVec.ofNat 32 n.val)) = BitVec.ofNat 32 (511 - n.val) := by
  decide +kernel

/-- An index below 512 isn't wrapped. -/
theorem word_wrap : ∀ n : Fin 512, Scalar.select (IntOp.cmpi .slt (BitVec.ofNat 32 n.val) 0#32)
    (IntOp.addi (BitVec.ofNat 32 n.val) 512#32) (BitVec.ofNat 32 n.val) = BitVec.ofNat 32 n.val := by
  decide +kernel

/-- A row below 8 isn't wrapped. -/
theorem word_row : ∀ b : Fin 8, Scalar.select (IntOp.cmpi .slt (BitVec.ofNat 32 b.val) 0#32)
    (IntOp.addi (BitVec.ofNat 32 b.val) 8#32) (BitVec.ofNat 32 b.val) = BitVec.ofNat 32 b.val := by
  decide +kernel

/-- An index below 512 isn't clipped. -/
theorem word_clip : ∀ n : Fin 512, IntOp.minsi 511#32 (IntOp.maxsi 0#32 (BitVec.ofNat 32 n.val)) = BitVec.ofNat 32 n.val := by
  decide +kernel

/-- An index below 512 isn't negative. -/
theorem word_nonneg : ∀ n : Fin 512, IntOp.cmpi .sge (BitVec.ofNat 32 n.val) 0#32 = 1#1 := by
  decide +kernel

variable {s : State Ideal}

/-! ## The rows that a trip reads -/

/-- The number of the node of trip `n`. -/
theorem b1_apply (n : ℕ) (hn : n < 512) (i : S_.Idx) : b1 n s i = BitVec.ofNat 32 (511 - n) := by
  pointwise [b1, b0, K_main_v6, K_main_v5, K_main_c_0, K_main_v4, K_main_v3, K_main_c, K_main_v2]
  rw [Host.clampedStart_of_le _ _ _ n (toInt_ofNat_of_lt (by omega)) (show n + 1 ≤ 512 by omega)]
  exact word_step ⟨n, hn⟩

/-- The node of trip `n`, wrapped: to read the input. -/
theorem b6_apply (n : ℕ) (hn : n < 512) (i : S_.Idx) : b6 n s i = BitVec.ofNat 32 (511 - n) := by
  pointwise [b6, b5, b4, b3, b2]
  rw [b1_apply n hn]
  exact word_wrap (Args.node n)

/-- The node of trip `n`, wrapped: to read the parents. -/
theorem b29_apply (n : ℕ) (hn : n < 512) (i : S_.Idx) : b29 n s i = BitVec.ofNat 32 (511 - n) := by
  pointwise [b29, b28, b27, b26, b25]
  rw [b1_apply n hn]
  exact word_wrap (Args.node n)

/-- The node of trip `n`, wrapped: to read the sides. -/
theorem b74_apply (n : ℕ) (hn : n < 512) (i : S_.Idx) : b74 n s i = BitVec.ofNat 32 (511 - n) := by
  pointwise [b74, b73, b72, b71, b70]
  rw [b1_apply n hn]
  exact word_wrap (Args.node n)

/-- The node of trip `n`, wrapped: to write the new states. -/
theorem b144_apply (n : ℕ) (hn : n < 512) : b144 n s (ix1 0) = BitVec.ofNat 32 (511 - n) := by
  pointwise [b144, b143, b142, b141, b140, b139]
  rw [b1_apply n hn]
  exact word_wrap (Args.node n)

theorem b14_apply (n : ℕ) (i : S_.Idx) : b14 n s i = 0#32 := by
  pointwise [b14, b13, b12, b11, b10, b9, b8, b7]
  decide
theorem b22_apply (n : ℕ) (i : S_.Idx) : b22 n s i = 0#32 := by
  pointwise [b22, b21, b20, b19, b18, b17, b16, b15]
  decide
theorem b37_apply (n : ℕ) (i : S_.Idx) : b37 n s i = 0#32 := by
  pointwise [b37, b36, b35, b34, b33, b32, b31, b30]
  decide
theorem b82_apply (n : ℕ) (i : S_.Idx) : b82 n s i = 0#32 := by
  pointwise [b82, b81, b80, b79, b78, b77, b76, b75]
  decide

/-- The number of the node of trip `n`, read signed. -/
theorem toInt_node (n : ℕ) : (BitVec.ofNat 32 (511 - n)).toInt = ((511 - n : ℕ) : Int) := toInt_ofNat_of_lt (by omega)

/-- The rows of a two-axis array that a trip reads. -/
theorem slice_row {α : Type} (x : S512x8.Idx → α) (n : ℕ) (start : Fin 2 → Int) (h0 : start 0 = ((511 - n : ℕ) : Int))
    (h1 : start 1 = ((0 : ℕ) : Int)) (b : Fin 8) :
    shapeCast S8 (Host.dynamicSlice S1x8 x start sliceFits_S512x8_S1x8) shapeCasts_S1x8_S8 (ix1 b)
      = x (ix2 (Args.node n) b) := by
  have hoff : S512x8.Slices ![511 - n, 0] S1x8 := ⟨rfl, fun a => by
    match a with
    | ⟨0, _⟩ => show 511 - n + 1 ≤ 512; omega
    | ⟨1, _⟩ => show 0 + 8 ≤ 8; omega⟩
  rw [Host.dynamicSlice_eq_extractStridedSlice S1x8 x start ![511 - n, 0] _ hoff (fun a => by
    match a with
    | ⟨0, _⟩ => exact h0
    | ⟨1, _⟩ => exact h1)]
  pointwise
  rfl

/-- The rows of the input that a trip reads. -/
theorem slice_rows {α : Type} (x : S512x8x256.Idx → α) (n : ℕ) (start : Fin 3 → Int) (h0 : start 0 = ((511 - n : ℕ) : Int))
    (h1 : start 1 = ((0 : ℕ) : Int)) (h2 : start 2 = ((0 : ℕ) : Int)) (b : Fin 8) (k : Fin 256) :
    shapeCast S8x256 (Host.dynamicSlice S1x8x256 x start sliceFits_S512x8x256_S1x8x256) shapeCasts_S1x8x256_S8x256 (ix2 b k)
      = x (ix3 (Args.node n) b k) := by
  have hoff : S512x8x256.Slices ![511 - n, 0, 0] S1x8x256 := ⟨rfl, fun a => by
    match a with
    | ⟨0, _⟩ => show 511 - n + 1 ≤ 512; omega
    | ⟨1, _⟩ => show 0 + 8 ≤ 8; omega
    | ⟨2, _⟩ => show 0 + 256 ≤ 256; omega⟩
  rw [Host.dynamicSlice_eq_extractStridedSlice S1x8x256 x start ![511 - n, 0, 0] _ hoff (fun a => by
    match a with
    | ⟨0, _⟩ => exact h0
    | ⟨1, _⟩ => exact h1
    | ⟨2, _⟩ => exact h2)]
  pointwise
  rfl

/-- The input's rows of trip `n`. -/
theorem b24_apply (n : ℕ) (hn : n < 512) (b : Fin 8) (k : Fin 256) :
    b24 n s (ix2 b k) = s.main_v7_1 (ix3 (Args.node n) b k) := by
  unfold b24 b23
  refine slice_rows s.main_v7_1 n _ ?_ ?_ ?_ b k
  · exact (congrArg BitVec.toInt (b6_apply n hn _)).trans (toInt_node n)
  · exact congrArg BitVec.toInt (b14_apply (s := s) n (Shape.Idx.first h_S_))
  · exact congrArg BitVec.toInt (b22_apply (s := s) n (Shape.Idx.first h_S_))

/-- The parents of trip `n`. -/
theorem b39_apply (n : ℕ) (hn : n < 512) (b : Fin 8) : b39 n s (ix1 b) = s.main_v7_2 (ix2 (Args.node n) b) := by
  unfold b39 b38
  refine slice_row s.main_v7_2 n _ ?_ ?_ b
  · exact (congrArg BitVec.toInt (b29_apply n hn _)).trans (toInt_node n)
  · exact congrArg BitVec.toInt (b37_apply (s := s) n (Shape.Idx.first h_S_))

/-- The sides of trip `n`. -/
theorem b84_apply (n : ℕ) (hn : n < 512) (b : Fin 8) : b84 n s (ix1 b) = s.main_v7_4 (ix2 (Args.node n) b) := by
  unfold b84 b83
  refine slice_row s.main_v7_4 n _ ?_ ?_ b
  · exact (congrArg BitVec.toInt (b74_apply n hn _)).trans (toInt_node n)
  · exact congrArg BitVec.toInt (b82_apply (s := s) n (Shape.Idx.first h_S_))

/-! ## The parents' states -/

/-- The node that the gather names, where the parent is node `p`. -/
theorem b64_node (n : ℕ) (b : Fin 8) (p : Fin 512) (h : b39 n s (ix1 b) = BitVec.ofNat 32 p.val) :
    b64 n s (ix2 b 0) = BitVec.ofNat 32 p.val := by
  pointwise [b64, b62, b54, b53, b52, b51, b50, b49, b48, b47, b46, b45, b44, b43, b42, b41, b40]
  rw [h, word_clip]
  exact word_wrap p

/-- The row that the gather names. -/
theorem b64_row (n : ℕ) (b : Fin 8) : b64 n s (ix2 b 1) = BitVec.ofNat 32 b.val := by
  pointwise [b64, b63, b61, b60, b59, b58, b57, b56, b55, K_main_v0]
  exact word_row b

/-- The states that the gather reads, where the parent is node `p`. -/
theorem b65_apply (n : ℕ) (b : Fin 8) (p : Fin 512) (h : b39 n s (ix1 b) = BitVec.ofNat 32 p.val) (k : Fin 256) :
    b65 n s (ix2 b k) = s.main_v7_14 (ix3 p b k) := by
  unfold b65
  refine (gather_node s.main_v7_14 (b64 n s) b k).trans ?_
  have hp : min (b64 n s (ix2 b 0)).toInt.toNat 511 = p.val := by
    rw [b64_node n b p h, toInt_ofNat_of_lt (by omega)]
    omega
  have hb : min (b64 n s (ix2 b 1)).toInt.toNat 7 = b.val := by
    rw [b64_row, toInt_ofNat_of_lt (by omega)]
    omega
  exact congrArg₂ (fun e r => s.main_v7_14 (ix3 e r k)) (Fin.ext hp) (Fin.ext hb)

/-- The left parent's state: the gathered one where there is a parent and the node hangs on the left. -/
theorem b91_apply (n : ℕ) (b : Fin 8) (k : Fin 256) :
    b91 n s (ix2 b k) = Scalar.select (IntOp.andi (IntOp.cmpi .sge (b39 n s (ix1 b)) 0#32) (b84 n s (ix1 b)))
      (b65 n s (ix2 b k)) (0 : EReal) := by
  pointwise [b91, b90, b89, b88, b87, b86, b85, b69, b68, b67, b66]

/-- The right parent's state: the gathered one where there is a parent and the node doesn't hang on the left. -/
theorem b98_apply (n : ℕ) (b : Fin 8) (k : Fin 256) :
    b98 n s (ix2 b k) = Scalar.select (IntOp.andi (IntOp.cmpi .sge (b39 n s (ix1 b)) 0#32) (~~~b84 n s (ix1 b)))
      (b65 n s (ix2 b k)) (0 : EReal) := by
  pointwise [b98, b97, b96, b95, b94, b93, b92, b85, b69, b68, b67, b66]

end Cert.TreeGru

end
-- ==== Proof.RefValue.lean ====
/- The value of the reference's loop where the tree is the right-branching chain: after `n` trips the rows of the last `n`
   nodes hold their hidden states, and the other rows are zero. -/
module

public import proofs.«01_k».proof.Proof.RefStep
public import proofs.«01_k».proof.Proof.RefIndex

@[expose] public section

set_option maxRecDepth 16384

noncomputable section

namespace Cert.TreeGru

open Idealize.ShloMosaic Cert.ReferenceIdeal Cert.ReferenceIdeal.Gen Step

attribute [local irreducible] Host.scatter

/-- The state's parents and sides are those of the chain, named by the trip that visits the node. -/
structure Chain (s : State Ideal) : Prop where
  last : ∀ b : Fin 8, s.main_v7_2 (ix2 (Args.node 0) b) = 4294967295#32
  parent : ∀ n, n < 512 → n ≠ 0 → ∀ b : Fin 8, s.main_v7_2 (ix2 (Args.node n) b) = BitVec.ofNat 32 (512 - n)
  right : ∀ n, n < 512 → n % 2 = 0 → ∀ b : Fin 8, s.main_v7_4 (ix2 (Args.node n) b) = 0#1
  left : ∀ n, n < 512 → ¬ n % 2 = 0 → ∀ b : Fin 8, s.main_v7_4 (ix2 (Args.node n) b) = 1#1

/-- What the state holds after `n` trips. -/
structure After (A : Args) (n : ℕ) (s : State Ideal) : Prop where
  args : Holds A s
  chain : Chain s
  rows : ∀ (e : Fin 512) (b : Fin 8) (k : Fin 256),
    s.main_v7_14 (ix3 e b k) = if 512 ≤ e.val + n then A.hid b (512 - e.val) k else (0 : EReal)

variable {A : Args} {s : State Ideal} {n : ℕ}

/-- The states gathered for trip `n`, other than the first, are those after `n` steps. -/
theorem parent_state (H : After A n s) (hn : n < 512) (h0 : n ≠ 0) (b : Fin 8) (k : Fin 256) :
    b65 n s (ix2 b k) = A.hid b n k := by
  have hp : b39 n s (ix1 b) = BitVec.ofNat 32 (⟨512 - n, by omega⟩ : Fin 512).val :=
    (b39_apply n hn b).trans (H.chain.parent n hn h0 b)
  rw [b65_apply n b _ hp k, H.rows, if_pos (show 512 ≤ 512 - n + n by omega)]
  exact congrArg (fun q => A.hid b q k) (show 512 - (512 - n) = n by omega)

/-- Every node but the last has a parent. -/
theorem has_parent (H : After A n s) (hn : n < 512) (h0 : n ≠ 0) (b : Fin 8) :
    IntOp.cmpi .sge (b39 n s (ix1 b)) 0#32 = 1#1 := by
  rw [b39_apply n hn b, H.chain.parent n hn h0 b]
  exact word_nonneg ⟨512 - n, by omega⟩

/-- The last node has no parent. -/
theorem no_parent (H : After A 0 s) (b : Fin 8) : IntOp.cmpi .sge (b39 0 s (ix1 b)) 0#32 = 0#1 := by
  rw [b39_apply 0 (by decide) b, H.chain.last b]
  decide

/-- The new states of trip `n`. -/
theorem new_state (H : After A n s) (hn : n < 512) (b : Fin 8) (k : Fin 256) :
    b138 n s (ix2 b k) = A.hid b (n + 1) k := by
  have hx : ∀ j, b24 n s (ix2 b j) = A.x (ix3 (Args.node n) b j) := fun j => by
    rw [b24_apply n hn, H.args.x]
  by_cases h : n % 2 = 0
  · rw [A.hid_even b n h]
    refine b138_right H.args n (Args.node n) b (A.hid b n) hx (fun j => ?_) (fun j => ?_) k
    · rw [b91_apply, b84_apply n hn, H.chain.right n hn h]
      have : ∀ v : BitVec 1, IntOp.andi v 0#1 = 0#1 := by decide
      rw [this]
      exact ValueIdx.select_zero _ _
    · by_cases h0 : n = 0
      · subst h0
        rw [b98_apply, no_parent H b]
        have : ∀ v : BitVec 1, IntOp.andi 0#1 v = 0#1 := by decide
        rw [this]
        exact ValueIdx.select_zero _ _
      · rw [b98_apply, has_parent H hn h0 b, b84_apply n hn, H.chain.right n hn h, parent_state H hn h0 b j]
        exact ValueIdx.select_one _ _
  · have h0 : n ≠ 0 := fun e => h (by rw [e])
    rw [A.hid_odd b n h]
    refine b138_left H.args n (Args.node n) b (A.hid b n) hx (fun j => ?_) (fun j => ?_) k
    · rw [b91_apply, has_parent H hn h0 b, b84_apply n hn, H.chain.left n hn h, parent_state H hn h0 b j]
      exact ValueIdx.select_one _ _
    · rw [b98_apply, b84_apply n hn, H.chain.left n hn h]
      have : ∀ v : BitVec 1, IntOp.andi v (~~~1#1) = 0#1 := by decide
      rw [this]
      exact ValueIdx.select_zero _ _

/-- A trip takes what holds after `n` trips to what holds after `n + 1`. -/
theorem after_step (H : After A n s) (hn : n < 512) : After A (n + 1) (step n s) where
  args := ⟨H.args.x, H.args.wg, H.args.bg, H.args.wgl, H.args.wgr, H.args.wc, H.args.bc, H.args.wcl, H.args.wcr⟩
  chain := ⟨H.chain.last, H.chain.parent, H.chain.right, H.chain.left⟩
  rows := fun e b k => by
    rw [step_main_v7_14]
    unfold b145
    rw [scatter_node s.main_v7_14 (b144 n s) (b138 n s) (Args.node n)
      ((congrArg BitVec.toInt (b144_apply n hn)).trans (toInt_node n)) e b k]
    by_cases he : e = Args.node n
    · have hv : e.val = 511 - n := congrArg Fin.val he
      rw [if_pos he, if_pos (by omega), new_state H hn b k]
      exact congrArg (fun q => A.hid b q k) (by omega)
    · have hv : e.val ≠ 511 - n := fun h => he (Fin.ext h)
      rw [if_neg he, H.rows]
      by_cases h : 512 ≤ e.val + n
      · rw [if_pos h, if_pos (by omega)]
      · rw [if_neg h, if_neg (by omega)]

/-- The states of a sequence that goes on by `step`. -/
theorem after_iter (it : ℕ → State Ideal) (h0 : After A 0 (it 0)) (hs : ∀ n, it (n + 1) = step n (it n)) :
    ∀ n, n ≤ 512 → After A n (it n)
  | 0, _ => h0
  | n + 1, hn => by
    rw [hs n]
    exact after_step (after_iter it h0 hs n (by omega)) (by omega)

/-- The first result, after the last trip: the hidden state of every node. -/
theorem result (H : After A 512 s) : R_main_v8 s = A.out := by
  funext i
  obtain ⟨b, e, k, rfl⟩ : ∃ (b : Fin 8) (e : Fin 512) (k : Fin 256), i = ix3 b e k :=
    ⟨i 0, i 1, i 2, by funext a; match a with | ⟨0, _⟩ => rfl | ⟨1, _⟩ => rfl | ⟨2, _⟩ => rfl⟩
  pointwise [R_main_v8]
  rw [H.rows, if_pos (by omega)]
  rfl

/-- The second result is zero. -/
theorem result_zero (s : State Ideal) : R_main_v9 s = (fun _ => (0 : EReal)) := by
  funext i
  obtain ⟨b, k, rfl⟩ : ∃ (b : Fin 8) (k : Fin 256), i = ix2 b k :=
    ⟨i 0, i 1, by funext a; match a with | ⟨0, _⟩ => rfl | ⟨1, _⟩ => rfl⟩
  pointwise [R_main_v9]

/-- Before the first trip every row is zero. -/
theorem rows_init (e : Fin 512) (b : Fin 8) (k : Fin 256) :
    K_main_v1 (F := Ideal) (ix3 e b k) = if 512 ≤ e.val + 0 then A.hid b (512 - e.val) k else (0 : EReal) := by
  rw [if_neg (by omega)]
  pointwise [K_main_v1, K_main_cst]

end Cert.TreeGru

end
-- ==== Proof.StepRun.lean ====
/- The reference's run stated over `step`: the results are read from state number 512 of any sequence of states that
  starts at the initial state and goes on by `step`. -/
module

public import proofs.«01_k».proof.Proof.Gen.ReferenceIdeal.Run
public import proofs.«01_k».proof.Proof.Step

@[expose] public section

noncomputable section

namespace Cert.TreeGru.StepRun

open Idealize.ShloMosaic Idealize.ShloMosaic.TcCoe Idealize.SL.Sem Idealize.ShloMosaic.StableHlo
open Cert.ReferenceIdeal Cert.ReferenceIdeal.Gen Cert.ReferenceIdeal.Value
open Cert.TreeGru.Step (State step init)

variable {F : FTy → Type} [FloatOps F]

variable (V0 : Valuation τ sig (Elt F)) (s : State F) (j : ℕ)

/-- The valuation holds the state, the set-up values and the trip's number. -/
structure Holds : Prop where
  f_14 : V0 (Proc.devRef .tc main_v7_14) = s.main_v7_14
  f_1 : V0 (Proc.devRef .tc main_v7_1) = s.main_v7_1
  f_2 : V0 (Proc.devRef .tc main_v7_2) = s.main_v7_2
  f_4 : V0 (Proc.devRef .tc main_v7_4) = s.main_v7_4
  f_5 : V0 (Proc.devRef .tc main_v7_5) = s.main_v7_5
  f_6 : V0 (Proc.devRef .tc main_v7_6) = s.main_v7_6
  f_7 : V0 (Proc.devRef .tc main_v7_7) = s.main_v7_7
  f_8 : V0 (Proc.devRef .tc main_v7_8) = s.main_v7_8
  f_9 : V0 (Proc.devRef .tc main_v7_9) = s.main_v7_9
  f_10 : V0 (Proc.devRef .tc main_v7_10) = s.main_v7_10
  f_11 : V0 (Proc.devRef .tc main_v7_11) = s.main_v7_11
  f_12 : V0 (Proc.devRef .tc main_v7_12) = s.main_v7_12
  n_13 : V0 (Proc.devRef .tc main_v7_13) = constantI S_ 32 (BitVec.ofNat 32 j)
  k_0 : V0 (Proc.devRef .tc main_v7_0) = Cert.TreeGru.Step.K_main_v6 (F := F)
  k_3 : V0 (Proc.devRef .tc main_v7_3) = Cert.TreeGru.Step.K_main_v0 (F := F)

variable {V0 s j}

attribute [local irreducible] Host.scatter

set_option maxRecDepth 8192 in
theorem al_0 (h : Holds V0 s j) : (Host.dynamicSlice S1 (V0 (Proc.devRef .tc main_v7_0)) (fun k => (((![V0 (Proc.devRef .tc main_v7_13)] : Fin 1 → (⟨S_, .i32⟩ : BufTy).Contents (Elt F))) k (Shape.Idx.first h_S_)).toInt) sliceFits_S512_S1 : (Proc.devRef .tc main_while0b_call0_v0 : DevRef τ sig).ty.Contents (Elt F)) = Cert.TreeGru.Step.b0 j s := by
  unfold Cert.TreeGru.Step.b0
  rw [h.k_0, h.n_13]
  try rfl
set_option maxRecDepth 8192 in
theorem al_1 (h : Holds V0 s j) : (res_main_while0b_v10 V0 : (Proc.devRef .tc main_while0b_v10 : DevRef τ sig).ty.Contents (Elt F)) = Cert.TreeGru.Step.b1 j s := by
  unfold res_main_while0b_v10 Cert.TreeGru.Step.b1
  rw [← al_0 h]
  try rfl
set_option maxRecDepth 8192 in
theorem al_2 (h : Holds V0 s j) : (constantI S_ 32 0#32 : (Proc.devRef .tc main_while0b_c_17 : DevRef τ sig).ty.Contents (Elt F)) = Cert.TreeGru.Step.b2 j s := by
  unfold Cert.TreeGru.Step.b2
  rfl
set_option maxRecDepth 8192 in
theorem al_3 (h : Holds V0 s j) : (cmpi .slt (res_main_while0b_v10 V0) (constantI S_ 32 0#32) : (Proc.devRef .tc main_while0b_v11 : DevRef τ sig).ty.Contents (Elt F)) = Cert.TreeGru.Step.b3 j s := by
  unfold Cert.TreeGru.Step.b3
  rw [← al_1 h, ← al_2 h]
  try rfl
set_option maxRecDepth 8192 in
theorem al_4 (h : Holds V0 s j) : (constantI S_ 32 512#32 : (Proc.devRef .tc main_while0b_c_18 : DevRef τ sig).ty.Contents (Elt F)) = Cert.TreeGru.Step.b4 j s := by
  unfold Cert.TreeGru.Step.b4
  rfl
set_option maxRecDepth 8192 in
theorem al_5 (h : Holds V0 s j) : (addi (res_main_while0b_v10 V0) (constantI S_ 32 512#32) : (Proc.devRef .tc main_while0b_v12 : DevRef τ sig).ty.Contents (Elt F)) = Cert.TreeGru.Step.b5 j s := by
  unfold Cert.TreeGru.Step.b5
  rw [← al_1 h, ← al_4 h]
  try rfl
set_option maxRecDepth 8192 in
theorem al_6 (h : Holds V0 s j) : (select (cmpi .slt (res_main_while0b_v10 V0) (constantI S_ 32 0#32)) (addi (res_main_while0b_v10 V0) (constantI S_ 32 512#32)) (res_main_while0b_v10 V0) : (Proc.devRef .tc main_while0b_v13 : DevRef τ sig).ty.Contents (Elt F)) = Cert.TreeGru.Step.b6 j s := by
  unfold Cert.TreeGru.Step.b6
  rw [← al_3 h, ← al_5 h, ← al_1 h]
  try rfl
set_option maxRecDepth 8192 in
theorem al_7 (h : Holds V0 s j) : (constantI S_ 32 0#32 : (Proc.devRef .tc main_while0b_c_19 : DevRef τ sig).ty.Contents (Elt F)) = Cert.TreeGru.Step.b7 j s := by
  unfold Cert.TreeGru.Step.b7
  rfl
set_option maxRecDepth 8192 in
theorem al_8 (h : Holds V0 s j) : (constantI S_ 32 0#32 : (Proc.devRef .tc main_while0b_c_20 : DevRef τ sig).ty.Contents (Elt F)) = Cert.TreeGru.Step.b8 j s := by
  unfold Cert.TreeGru.Step.b8
  rfl
set_option maxRecDepth 8192 in
theorem al_9 (h : Holds V0 s j) : (cmpi .slt (constantI S_ 32 0#32) (constantI S_ 32 0#32) : (Proc.devRef .tc main_while0b_v14 : DevRef τ sig).ty.Contents (Elt F)) = Cert.TreeGru.Step.b9 j s := by
  unfold Cert.TreeGru.Step.b9
  rw [← al_7 h, ← al_8 h]
  try rfl
set_option maxRecDepth 8192 in
theorem al_10 (h : Holds V0 s j) : (constantI S_ 32 0#32 : (Proc.devRef .tc main_while0b_c_21 : DevRef τ sig).ty.Contents (Elt F)) = Cert.TreeGru.Step.b10 j s := by
  unfold Cert.TreeGru.Step.b10
  rfl
set_option maxRecDepth 8192 in
theorem al_11 (h : Holds V0 s j) : (constantI S_ 32 8#32 : (Proc.devRef .tc main_while0b_c_22 : DevRef τ sig).ty.Contents (Elt F)) = Cert.TreeGru.Step.b11 j s := by
  unfold Cert.TreeGru.Step.b11
  rfl
set_option maxRecDepth 8192 in
theorem al_12 (h : Holds V0 s j) : (addi (constantI S_ 32 0#32) (constantI S_ 32 8#32) : (Proc.devRef .tc main_while0b_v15 : DevRef τ sig).ty.Contents (Elt F)) = Cert.TreeGru.Step.b12 j s := by
  unfold Cert.TreeGru.Step.b12
  rw [← al_10 h, ← al_11 h]
  try rfl
set_option maxRecDepth 8192 in
theorem al_13 (h : Holds V0 s j) : (constantI S_ 32 0#32 : (Proc.devRef .tc main_while0b_c_23 : DevRef τ sig).ty.Contents (Elt F)) = Cert.TreeGru.Step.b13 j s := by
  unfold Cert.TreeGru.Step.b13
  rfl
set_option maxRecDepth 8192 in
theorem al_14 (h : Holds V0 s j) : (select (cmpi .slt (constantI S_ 32 0#32) (constantI S_ 32 0#32)) (addi (constantI S_ 32 0#32) (constantI S_ 32 8#32)) (constantI S_ 32 0#32) : (Proc.devRef .tc main_while0b_v16 : DevRef τ sig).ty.Contents (Elt F)) = Cert.TreeGru.Step.b14 j s := by
  unfold Cert.TreeGru.Step.b14
  rw [← al_9 h, ← al_12 h, ← al_13 h]
  try rfl
set_option maxRecDepth 8192 in
theorem al_15 (h : Holds V0 s j) : (constantI S_ 32 0#32 : (Proc.devRef .tc main_while0b_c_24 : DevRef τ sig).ty.Contents (Elt F)) = Cert.TreeGru.Step.b15 j s := by
  unfold Cert.TreeGru.Step.b15
  rfl
set_option maxRecDepth 8192 in
theorem al_16 (h : Holds V0 s j) : (constantI S_ 32 0#32 : (Proc.devRef .tc main_while0b_c_25 : DevRef τ sig).ty.Contents (Elt F)) = Cert.TreeGru.Step.b16 j s := by
  unfold Cert.TreeGru.Step.b16
  rfl
set_option maxRecDepth 8192 in
theorem al_17 (h : Holds V0 s j) : (cmpi .slt (constantI S_ 32 0#32) (constantI S_ 32 0#32) : (Proc.devRef .tc main_while0b_v17 : DevRef τ sig).ty.Contents (Elt F)) = Cert.TreeGru.Step.b17 j s := by
  unfold Cert.TreeGru.Step.b17
  rw [← al_15 h, ← al_16 h]
  try rfl
set_option maxRecDepth 8192 in
theorem al_18 (h : Holds V0 s j) : (constantI S_ 32 0#32 : (Proc.devRef .tc main_while0b_c_26 : DevRef τ sig).ty.Contents (Elt F)) = Cert.TreeGru.Step.b18 j s := by
  unfold Cert.TreeGru.Step.b18
  rfl
set_option maxRecDepth 8192 in
theorem al_19 (h : Holds V0 s j) : (constantI S_ 32 256#32 : (Proc.devRef .tc main_while0b_c_27 : DevRef τ sig).ty.Contents (Elt F)) = Cert.TreeGru.Step.b19 j s := by
  unfold Cert.TreeGru.Step.b19
  rfl
set_option maxRecDepth 8192 in
theorem al_20 (h : Holds V0 s j) : (addi (constantI S_ 32 0#32) (constantI S_ 32 256#32) : (Proc.devRef .tc main_while0b_v18 : DevRef τ sig).ty.Contents (Elt F)) = Cert.TreeGru.Step.b20 j s := by
  unfold Cert.TreeGru.Step.b20
  rw [← al_18 h, ← al_19 h]
  try rfl
set_option maxRecDepth 8192 in
theorem al_21 (h : Holds V0 s j) : (constantI S_ 32 0#32 : (Proc.devRef .tc main_while0b_c_28 : DevRef τ sig).ty.Contents (Elt F)) = Cert.TreeGru.Step.b21 j s := by
  unfold Cert.TreeGru.Step.b21
  rfl
set_option maxRecDepth 8192 in
theorem al_22 (h : Holds V0 s j) : (select (cmpi .slt (constantI S_ 32 0#32) (constantI S_ 32 0#32)) (addi (constantI S_ 32 0#32) (constantI S_ 32 256#32)) (constantI S_ 32 0#32) : (Proc.devRef .tc main_while0b_v19 : DevRef τ sig).ty.Contents (Elt F)) = Cert.TreeGru.Step.b22 j s := by
  unfold Cert.TreeGru.Step.b22
  rw [← al_17 h, ← al_20 h, ← al_21 h]
  try rfl
set_option maxRecDepth 8192 in
theorem al_23 (h : Holds V0 s j) : (Host.dynamicSlice S1x8x256 (V0 (Proc.devRef .tc main_v7_1)) (fun k => (((![select (cmpi .slt (res_main_while0b_v10 V0) (constantI S_ 32 0#32)) (addi (res_main_while0b_v10 V0) (constantI S_ 32 512#32)) (res_main_while0b_v10 V0), select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 256#32)) (constantI S_ 32 0#32)] : Fin 3 → (⟨S_, .i32⟩ : BufTy).Contents (Elt F))) k (Shape.Idx.first h_S_)).toInt) sliceFits_S512x8x256_S1x8x256 : (Proc.devRef .tc main_while0b_v20 : DevRef τ sig).ty.Contents (Elt F)) = Cert.TreeGru.Step.b23 j s := by
  unfold Cert.TreeGru.Step.b23
  rw [← al_6 h, ← al_14 h, ← al_22 h, h.f_1]
  try rfl
set_option maxRecDepth 8192 in
theorem al_24 (h : Holds V0 s j) : (res_main_while0b_v21 V0 : (Proc.devRef .tc main_while0b_v21 : DevRef τ sig).ty.Contents (Elt F)) = Cert.TreeGru.Step.b24 j s := by
  unfold res_main_while0b_v21 Cert.TreeGru.Step.b24
  rw [← al_23 h]
  try rfl
set_option maxRecDepth 8192 in
theorem al_25 (h : Holds V0 s j) : (constantI S_ 32 0#32 : (Proc.devRef .tc main_while0b_c_29 : DevRef τ sig).ty.Contents (Elt F)) = Cert.TreeGru.Step.b25 j s := by
  unfold Cert.TreeGru.Step.b25
  rfl
set_option maxRecDepth 8192 in
theorem al_26 (h : Holds V0 s j) : (cmpi .slt (res_main_while0b_v10 V0) (constantI S_ 32 0#32) : (Proc.devRef .tc main_while0b_v22 : DevRef τ sig).ty.Contents (Elt F)) = Cert.TreeGru.Step.b26 j s := by
  unfold Cert.TreeGru.Step.b26
  rw [← al_1 h, ← al_25 h]
  try rfl
set_option maxRecDepth 8192 in
theorem al_27 (h : Holds V0 s j) : (constantI S_ 32 512#32 : (Proc.devRef .tc main_while0b_c_30 : DevRef τ sig).ty.Contents (Elt F)) = Cert.TreeGru.Step.b27 j s := by
  unfold Cert.TreeGru.Step.b27
  rfl
set_option maxRecDepth 8192 in
theorem al_28 (h : Holds V0 s j) : (addi (res_main_while0b_v10 V0) (constantI S_ 32 512#32) : (Proc.devRef .tc main_while0b_v23 : DevRef τ sig).ty.Contents (Elt F)) = Cert.TreeGru.Step.b28 j s := by
  unfold Cert.TreeGru.Step.b28
  rw [← al_1 h, ← al_27 h]
  try rfl
set_option maxRecDepth 8192 in
theorem al_29 (h : Holds V0 s j) : (select (cmpi .slt (res_main_while0b_v10 V0) (constantI S_ 32 0#32)) (addi (res_main_while0b_v10 V0) (constantI S_ 32 512#32)) (res_main_while0b_v10 V0) : (Proc.devRef .tc main_while0b_v24 : DevRef τ sig).ty.Contents (Elt F)) = Cert.TreeGru.Step.b29 j s := by
  unfold Cert.TreeGru.Step.b29
  rw [← al_26 h, ← al_28 h, ← al_1 h]
  try rfl
set_option maxRecDepth 8192 in
theorem al_30 (h : Holds V0 s j) : (constantI S_ 32 0#32 : (Proc.devRef .tc main_while0b_c_31 : DevRef τ sig).ty.Contents (Elt F)) = Cert.TreeGru.Step.b30 j s := by
  unfold Cert.TreeGru.Step.b30
  rfl
set_option maxRecDepth 8192 in
theorem al_31 (h : Holds V0 s j) : (constantI S_ 32 0#32 : (Proc.devRef .tc main_while0b_c_32 : DevRef τ sig).ty.Contents (Elt F)) = Cert.TreeGru.Step.b31 j s := by
  unfold Cert.TreeGru.Step.b31
  rfl
set_option maxRecDepth 8192 in
theorem al_32 (h : Holds V0 s j) : (cmpi .slt (constantI S_ 32 0#32) (constantI S_ 32 0#32) : (Proc.devRef .tc main_while0b_v25 : DevRef τ sig).ty.Contents (Elt F)) = Cert.TreeGru.Step.b32 j s := by
  unfold Cert.TreeGru.Step.b32
  rw [← al_30 h, ← al_31 h]
  try rfl
set_option maxRecDepth 8192 in
theorem al_33 (h : Holds V0 s j) : (constantI S_ 32 0#32 : (Proc.devRef .tc main_while0b_c_33 : DevRef τ sig).ty.Contents (Elt F)) = Cert.TreeGru.Step.b33 j s := by
  unfold Cert.TreeGru.Step.b33
  rfl
set_option maxRecDepth 8192 in
theorem al_34 (h : Holds V0 s j) : (constantI S_ 32 8#32 : (Proc.devRef .tc main_while0b_c_34 : DevRef τ sig).ty.Contents (Elt F)) = Cert.TreeGru.Step.b34 j s := by
  unfold Cert.TreeGru.Step.b34
  rfl
set_option maxRecDepth 8192 in
theorem al_35 (h : Holds V0 s j) : (addi (constantI S_ 32 0#32) (constantI S_ 32 8#32) : (Proc.devRef .tc main_while0b_v26 : DevRef τ sig).ty.Contents (Elt F)) = Cert.TreeGru.Step.b35 j s := by
  unfold Cert.TreeGru.Step.b35
  rw [← al_33 h, ← al_34 h]
  try rfl
set_option maxRecDepth 8192 in
theorem al_36 (h : Holds V0 s j) : (constantI S_ 32 0#32 : (Proc.devRef .tc main_while0b_c_35 : DevRef τ sig).ty.Contents (Elt F)) = Cert.TreeGru.Step.b36 j s := by
  unfold Cert.TreeGru.Step.b36
  rfl
set_option maxRecDepth 8192 in
theorem al_37 (h : Holds V0 s j) : (select (cmpi .slt (constantI S_ 32 0#32) (constantI S_ 32 0#32)) (addi (constantI S_ 32 0#32) (constantI S_ 32 8#32)) (constantI S_ 32 0#32) : (Proc.devRef .tc main_while0b_v27 : DevRef τ sig).ty.Contents (Elt F)) = Cert.TreeGru.Step.b37 j s := by
  unfold Cert.TreeGru.Step.b37
  rw [← al_32 h, ← al_35 h, ← al_36 h]
  try rfl
set_option maxRecDepth 8192 in
theorem al_38 (h : Holds V0 s j) : (Host.dynamicSlice S1x8 (V0 (Proc.devRef .tc main_v7_2)) (fun k => (((![select (cmpi .slt (res_main_while0b_v10 V0) (constantI S_ 32 0#32)) (addi (res_main_while0b_v10 V0) (constantI S_ 32 512#32)) (res_main_while0b_v10 V0), select (cmpi .slt (constantI S_ 32 0#32) (constantI S_ 32 0#32)) (addi (constantI S_ 32 0#32) (constantI S_ 32 8#32)) (constantI S_ 32 0#32)] : Fin 2 → (⟨S_, .i32⟩ : BufTy).Contents (Elt F))) k (Shape.Idx.first h_S_)).toInt) sliceFits_S512x8_S1x8 : (Proc.devRef .tc main_while0b_v28 : DevRef τ sig).ty.Contents (Elt F)) = Cert.TreeGru.Step.b38 j s := by
  unfold Cert.TreeGru.Step.b38
  rw [← al_29 h, ← al_37 h, h.f_2]
  try rfl
set_option maxRecDepth 8192 in
theorem al_39 (h : Holds V0 s j) : (res_main_while0b_v29 V0 : (Proc.devRef .tc main_while0b_v29 : DevRef τ sig).ty.Contents (Elt F)) = Cert.TreeGru.Step.b39 j s := by
  unfold res_main_while0b_v29 Cert.TreeGru.Step.b39
  rw [← al_38 h]
  try rfl
set_option maxRecDepth 8192 in
theorem al_40 (h : Holds V0 s j) : (constantI S_ 32 0#32 : (Proc.devRef .tc main_while0b_c_36 : DevRef τ sig).ty.Contents (Elt F)) = Cert.TreeGru.Step.b40 j s := by
  unfold Cert.TreeGru.Step.b40
  rfl
set_option maxRecDepth 8192 in
theorem al_41 (h : Holds V0 s j) : (constantI S_ 32 511#32 : (Proc.devRef .tc main_while0b_c_37 : DevRef τ sig).ty.Contents (Elt F)) = Cert.TreeGru.Step.b41 j s := by
  unfold Cert.TreeGru.Step.b41
  rfl
set_option maxRecDepth 8192 in
theorem al_42 (h : Holds V0 s j) : (id (constantI S_ 32 0#32) : (Proc.devRef .tc main_while0b_call1_v0 : DevRef τ sig).ty.Contents (Elt F)) = Cert.TreeGru.Step.b42 j s := by
  unfold Cert.TreeGru.Step.b42
  rw [← al_40 h]
  try rfl
set_option maxRecDepth 8192 in
theorem al_43 (h : Holds V0 s j) : (broadcastInDim S8 ![] bcast_S_S8 (id (constantI S_ 32 0#32)) : (Proc.devRef .tc main_while0b_call1_v1 : DevRef τ sig).ty.Contents (Elt F)) = Cert.TreeGru.Step.b43 j s := by
  unfold Cert.TreeGru.Step.b43
  rw [← al_42 h]
  try rfl
set_option maxRecDepth 8192 in
theorem al_44 (h : Holds V0 s j) : (maxsi (broadcastInDim S8 ![] bcast_S_S8 (id (constantI S_ 32 0#32))) (res_main_while0b_v29 V0) : (Proc.devRef .tc main_while0b_call1_v2 : DevRef τ sig).ty.Contents (Elt F)) = Cert.TreeGru.Step.b44 j s := by
  unfold Cert.TreeGru.Step.b44
  rw [← al_43 h, ← al_39 h]
  try rfl
set_option maxRecDepth 8192 in
theorem al_45 (h : Holds V0 s j) : (id (constantI S_ 32 511#32) : (Proc.devRef .tc main_while0b_call1_v3 : DevRef τ sig).ty.Contents (Elt F)) = Cert.TreeGru.Step.b45 j s := by
  unfold Cert.TreeGru.Step.b45
  rw [← al_41 h]
  try rfl
set_option maxRecDepth 8192 in
theorem al_46 (h : Holds V0 s j) : (broadcastInDim S8 ![] bcast_S_S8 (id (constantI S_ 32 511#32)) : (Proc.devRef .tc main_while0b_call1_v4 : DevRef τ sig).ty.Contents (Elt F)) = Cert.TreeGru.Step.b46 j s := by
  unfold Cert.TreeGru.Step.b46
  rw [← al_45 h]
  try rfl
set_option maxRecDepth 8192 in
theorem al_47 (h : Holds V0 s j) : (res_main_while0b_v30 V0 : (Proc.devRef .tc main_while0b_v30 : DevRef τ sig).ty.Contents (Elt F)) = Cert.TreeGru.Step.b47 j s := by
  unfold res_main_while0b_v30 Cert.TreeGru.Step.b47
  rw [← al_46 h, ← al_44 h]
  try rfl
set_option maxRecDepth 8192 in
theorem al_48 (h : Holds V0 s j) : (constantI S_ 32 0#32 : (Proc.devRef .tc main_while0b_c_38 : DevRef τ sig).ty.Contents (Elt F)) = Cert.TreeGru.Step.b48 j s := by
  unfold Cert.TreeGru.Step.b48
  rfl
set_option maxRecDepth 8192 in
theorem al_49 (h : Holds V0 s j) : (broadcastInDim S8 ![] bcast_S_S8 (constantI S_ 32 0#32) : (Proc.devRef .tc main_while0b_v31 : DevRef τ sig).ty.Contents (Elt F)) = Cert.TreeGru.Step.b49 j s := by
  unfold Cert.TreeGru.Step.b49
  rw [← al_48 h]
  try rfl
set_option maxRecDepth 8192 in
theorem al_50 (h : Holds V0 s j) : (cmpi .slt (res_main_while0b_v30 V0) (broadcastInDim S8 ![] bcast_S_S8 (constantI S_ 32 0#32)) : (Proc.devRef .tc main_while0b_v32 : DevRef τ sig).ty.Contents (Elt F)) = Cert.TreeGru.Step.b50 j s := by
  unfold Cert.TreeGru.Step.b50
  rw [← al_47 h, ← al_49 h]
  try rfl
set_option maxRecDepth 8192 in
theorem al_51 (h : Holds V0 s j) : (constantI S_ 32 512#32 : (Proc.devRef .tc main_while0b_c_39 : DevRef τ sig).ty.Contents (Elt F)) = Cert.TreeGru.Step.b51 j s := by
  unfold Cert.TreeGru.Step.b51
  rfl
set_option maxRecDepth 8192 in
theorem al_52 (h : Holds V0 s j) : (broadcastInDim S8 ![] bcast_S_S8 (constantI S_ 32 512#32) : (Proc.devRef .tc main_while0b_v33 : DevRef τ sig).ty.Contents (Elt F)) = Cert.TreeGru.Step.b52 j s := by
  unfold Cert.TreeGru.Step.b52
  rw [← al_51 h]
  try rfl
set_option maxRecDepth 8192 in
theorem al_53 (h : Holds V0 s j) : (addi (res_main_while0b_v30 V0) (broadcastInDim S8 ![] bcast_S_S8 (constantI S_ 32 512#32)) : (Proc.devRef .tc main_while0b_v34 : DevRef τ sig).ty.Contents (Elt F)) = Cert.TreeGru.Step.b53 j s := by
  unfold Cert.TreeGru.Step.b53
  rw [← al_47 h, ← al_52 h]
  try rfl
set_option maxRecDepth 8192 in
theorem al_54 (h : Holds V0 s j) : (select (cmpi .slt (res_main_while0b_v30 V0) (broadcastInDim S8 ![] bcast_S_S8 (constantI S_ 32 0#32))) (addi (res_main_while0b_v30 V0) (broadcastInDim S8 ![] bcast_S_S8 (constantI S_ 32 512#32))) (res_main_while0b_v30 V0) : (Proc.devRef .tc main_while0b_v35 : DevRef τ sig).ty.Contents (Elt F)) = Cert.TreeGru.Step.b54 j s := by
  unfold Cert.TreeGru.Step.b54
  rw [← al_50 h, ← al_53 h, ← al_47 h]
  try rfl
set_option maxRecDepth 8192 in
theorem al_55 (h : Holds V0 s j) : (constantI S_ 32 0#32 : (Proc.devRef .tc main_while0b_c_40 : DevRef τ sig).ty.Contents (Elt F)) = Cert.TreeGru.Step.b55 j s := by
  unfold Cert.TreeGru.Step.b55
  rfl
set_option maxRecDepth 8192 in
theorem al_56 (h : Holds V0 s j) : (broadcastInDim S8 ![] bcast_S_S8 (constantI S_ 32 0#32) : (Proc.devRef .tc main_while0b_v36 : DevRef τ sig).ty.Contents (Elt F)) = Cert.TreeGru.Step.b56 j s := by
  unfold Cert.TreeGru.Step.b56
  rw [← al_55 h]
  try rfl
set_option maxRecDepth 8192 in
theorem al_57 (h : Holds V0 s j) : (cmpi .slt (V0 (Proc.devRef .tc main_v7_3)) (broadcastInDim S8 ![] bcast_S_S8 (constantI S_ 32 0#32)) : (Proc.devRef .tc main_while0b_v37 : DevRef τ sig).ty.Contents (Elt F)) = Cert.TreeGru.Step.b57 j s := by
  unfold Cert.TreeGru.Step.b57
  rw [← al_56 h, h.k_3]
  try rfl
set_option maxRecDepth 8192 in
theorem al_58 (h : Holds V0 s j) : (constantI S_ 32 8#32 : (Proc.devRef .tc main_while0b_c_41 : DevRef τ sig).ty.Contents (Elt F)) = Cert.TreeGru.Step.b58 j s := by
  unfold Cert.TreeGru.Step.b58
  rfl
set_option maxRecDepth 8192 in
theorem al_59 (h : Holds V0 s j) : (broadcastInDim S8 ![] bcast_S_S8 (constantI S_ 32 8#32) : (Proc.devRef .tc main_while0b_v38 : DevRef τ sig).ty.Contents (Elt F)) = Cert.TreeGru.Step.b59 j s := by
  unfold Cert.TreeGru.Step.b59
  rw [← al_58 h]
  try rfl
set_option maxRecDepth 8192 in
theorem al_60 (h : Holds V0 s j) : (addi (V0 (Proc.devRef .tc main_v7_3)) (broadcastInDim S8 ![] bcast_S_S8 (constantI S_ 32 8#32)) : (Proc.devRef .tc main_while0b_v39 : DevRef τ sig).ty.Contents (Elt F)) = Cert.TreeGru.Step.b60 j s := by
  unfold Cert.TreeGru.Step.b60
  rw [← al_59 h, h.k_3]
  try rfl
set_option maxRecDepth 8192 in
theorem al_61 (h : Holds V0 s j) : (select (cmpi .slt (V0 (Proc.devRef .tc main_v7_3)) (broadcastInDim S8 ![] bcast_S_S8 (constantI S_ 32 0#32))) (addi (V0 (Proc.devRef .tc main_v7_3)) (broadcastInDim S8 ![] bcast_S_S8 (constantI S_ 32 8#32))) (V0 (Proc.devRef .tc main_v7_3)) : (Proc.devRef .tc main_while0b_v40 : DevRef τ sig).ty.Contents (Elt F)) = Cert.TreeGru.Step.b61 j s := by
  unfold Cert.TreeGru.Step.b61
  rw [← al_57 h, ← al_60 h, h.k_3]
  try rfl
set_option maxRecDepth 8192 in
theorem al_62 (h : Holds V0 s j) : (broadcastInDim S8x1 ![0] bcast_S8_S8x1_0 (select (cmpi .slt (res_main_while0b_v30 V0) (broadcastInDim S8 ![] bcast_S_S8 (constantI S_ 32 0#32))) (addi (res_main_while0b_v30 V0) (broadcastInDim S8 ![] bcast_S_S8 (constantI S_ 32 512#32))) (res_main_while0b_v30 V0)) : (Proc.devRef .tc main_while0b_v41 : DevRef τ sig).ty.Contents (Elt F)) = Cert.TreeGru.Step.b62 j s := by
  unfold Cert.TreeGru.Step.b62
  rw [← al_54 h]
  try rfl
set_option maxRecDepth 8192 in
theorem al_63 (h : Holds V0 s j) : (broadcastInDim S8x1 ![0] bcast_S8_S8x1_0 (select (cmpi .slt (V0 (Proc.devRef .tc main_v7_3)) (broadcastInDim S8 ![] bcast_S_S8 (constantI S_ 32 0#32))) (addi (V0 (Proc.devRef .tc main_v7_3)) (broadcastInDim S8 ![] bcast_S_S8 (constantI S_ 32 8#32))) (V0 (Proc.devRef .tc main_v7_3))) : (Proc.devRef .tc main_while0b_v42 : DevRef τ sig).ty.Contents (Elt F)) = Cert.TreeGru.Step.b63 j s := by
  unfold Cert.TreeGru.Step.b63
  rw [← al_61 h]
  try rfl
set_option maxRecDepth 8192 in
theorem al_64 (h : Holds V0 s j) : (concatenate S8x2 1 [⟨S8x1, (broadcastInDim S8x1 ![0] bcast_S8_S8x1_0 (select (cmpi .slt (res_main_while0b_v30 V0) (broadcastInDim S8 ![] bcast_S_S8 (constantI S_ 32 0#32))) (addi (res_main_while0b_v30 V0) (broadcastInDim S8 ![] bcast_S_S8 (constantI S_ 32 512#32))) (res_main_while0b_v30 V0)))⟩, ⟨S8x1, (broadcastInDim S8x1 ![0] bcast_S8_S8x1_0 (select (cmpi .slt (V0 (Proc.devRef .tc main_v7_3)) (broadcastInDim S8 ![] bcast_S_S8 (constantI S_ 32 0#32))) (addi (V0 (Proc.devRef .tc main_v7_3)) (broadcastInDim S8 ![] bcast_S_S8 (constantI S_ 32 8#32))) (V0 (Proc.devRef .tc main_v7_3))))⟩] concatenates_S8x1_S8x1_S8x2_d1 : (Proc.devRef .tc main_while0b_v43 : DevRef τ sig).ty.Contents (Elt F)) = Cert.TreeGru.Step.b64 j s := by
  unfold Cert.TreeGru.Step.b64
  rw [← al_62 h, ← al_63 h]
  try rfl
set_option maxRecDepth 8192 in
theorem al_65 (h : Holds V0 s j) : (res_main_while0b_v44 V0 : (Proc.devRef .tc main_while0b_v44 : DevRef τ sig).ty.Contents (Elt F)) = Cert.TreeGru.Step.b65 j s := by
  unfold res_main_while0b_v44 Cert.TreeGru.Step.b65
  rw [← al_64 h, h.f_14]
  try rfl
set_option maxRecDepth 8192 in
theorem al_66 (h : Holds V0 s j) : (constantI S_ 32 0#32 : (Proc.devRef .tc main_while0b_c_42 : DevRef τ sig).ty.Contents (Elt F)) = Cert.TreeGru.Step.b66 j s := by
  unfold Cert.TreeGru.Step.b66
  rfl
set_option maxRecDepth 8192 in
theorem al_67 (h : Holds V0 s j) : (broadcastInDim S8 ![] bcast_S_S8 (constantI S_ 32 0#32) : (Proc.devRef .tc main_while0b_v45 : DevRef τ sig).ty.Contents (Elt F)) = Cert.TreeGru.Step.b67 j s := by
  unfold Cert.TreeGru.Step.b67
  rw [← al_66 h]
  try rfl
set_option maxRecDepth 8192 in
theorem al_68 (h : Holds V0 s j) : (cmpi .sge (res_main_while0b_v29 V0) (broadcastInDim S8 ![] bcast_S_S8 (constantI S_ 32 0#32)) : (Proc.devRef .tc main_while0b_v46 : DevRef τ sig).ty.Contents (Elt F)) = Cert.TreeGru.Step.b68 j s := by
  unfold Cert.TreeGru.Step.b68
  rw [← al_39 h, ← al_67 h]
  try rfl
set_option maxRecDepth 8192 in
theorem al_69 (h : Holds V0 s j) : (res_main_while0b_v47 V0 : (Proc.devRef .tc main_while0b_v47 : DevRef τ sig).ty.Contents (Elt F)) = Cert.TreeGru.Step.b69 j s := by
  unfold res_main_while0b_v47 Cert.TreeGru.Step.b69
  rw [← al_68 h]
  try rfl
set_option maxRecDepth 8192 in
theorem al_70 (h : Holds V0 s j) : (constantI S_ 32 0#32 : (Proc.devRef .tc main_while0b_c_43 : DevRef τ sig).ty.Contents (Elt F)) = Cert.TreeGru.Step.b70 j s := by
  unfold Cert.TreeGru.Step.b70
  rfl
set_option maxRecDepth 8192 in
theorem al_71 (h : Holds V0 s j) : (cmpi .slt (res_main_while0b_v10 V0) (constantI S_ 32 0#32) : (Proc.devRef .tc main_while0b_v48 : DevRef τ sig).ty.Contents (Elt F)) = Cert.TreeGru.Step.b71 j s := by
  unfold Cert.TreeGru.Step.b71
  rw [← al_1 h, ← al_70 h]
  try rfl
set_option maxRecDepth 8192 in
theorem al_72 (h : Holds V0 s j) : (constantI S_ 32 512#32 : (Proc.devRef .tc main_while0b_c_44 : DevRef τ sig).ty.Contents (Elt F)) = Cert.TreeGru.Step.b72 j s := by
  unfold Cert.TreeGru.Step.b72
  rfl
set_option maxRecDepth 8192 in
theorem al_73 (h : Holds V0 s j) : (addi (res_main_while0b_v10 V0) (constantI S_ 32 512#32) : (Proc.devRef .tc main_while0b_v49 : DevRef τ sig).ty.Contents (Elt F)) = Cert.TreeGru.Step.b73 j s := by
  unfold Cert.TreeGru.Step.b73
  rw [← al_1 h, ← al_72 h]
  try rfl
set_option maxRecDepth 8192 in
theorem al_74 (h : Holds V0 s j) : (select (cmpi .slt (res_main_while0b_v10 V0) (constantI S_ 32 0#32)) (addi (res_main_while0b_v10 V0) (constantI S_ 32 512#32)) (res_main_while0b_v10 V0) : (Proc.devRef .tc main_while0b_v50 : DevRef τ sig).ty.Contents (Elt F)) = Cert.TreeGru.Step.b74 j s := by
  unfold Cert.TreeGru.Step.b74
  rw [← al_71 h, ← al_73 h, ← al_1 h]
  try rfl
set_option maxRecDepth 8192 in
theorem al_75 (h : Holds V0 s j) : (constantI S_ 32 0#32 : (Proc.devRef .tc main_while0b_c_45 : DevRef τ sig).ty.Contents (Elt F)) = Cert.TreeGru.Step.b75 j s := by
  unfold Cert.TreeGru.Step.b75
  rfl
set_option maxRecDepth 8192 in
theorem al_76 (h : Holds V0 s j) : (constantI S_ 32 0#32 : (Proc.devRef .tc main_while0b_c_46 : DevRef τ sig).ty.Contents (Elt F)) = Cert.TreeGru.Step.b76 j s := by
  unfold Cert.TreeGru.Step.b76
  rfl
set_option maxRecDepth 8192 in
theorem al_77 (h : Holds V0 s j) : (cmpi .slt (constantI S_ 32 0#32) (constantI S_ 32 0#32) : (Proc.devRef .tc main_while0b_v51 : DevRef τ sig).ty.Contents (Elt F)) = Cert.TreeGru.Step.b77 j s := by
  unfold Cert.TreeGru.Step.b77
  rw [← al_75 h, ← al_76 h]
  try rfl
set_option maxRecDepth 8192 in
theorem al_78 (h : Holds V0 s j) : (constantI S_ 32 0#32 : (Proc.devRef .tc main_while0b_c_47 : DevRef τ sig).ty.Contents (Elt F)) = Cert.TreeGru.Step.b78 j s := by
  unfold Cert.TreeGru.Step.b78
  rfl
set_option maxRecDepth 8192 in
theorem al_79 (h : Holds V0 s j) : (constantI S_ 32 8#32 : (Proc.devRef .tc main_while0b_c_48 : DevRef τ sig).ty.Contents (Elt F)) = Cert.TreeGru.Step.b79 j s := by
  unfold Cert.TreeGru.Step.b79
  rfl
set_option maxRecDepth 8192 in
theorem al_80 (h : Holds V0 s j) : (addi (constantI S_ 32 0#32) (constantI S_ 32 8#32) : (Proc.devRef .tc main_while0b_v52 : DevRef τ sig).ty.Contents (Elt F)) = Cert.TreeGru.Step.b80 j s := by
  unfold Cert.TreeGru.Step.b80
  rw [← al_78 h, ← al_79 h]
  try rfl
set_option maxRecDepth 8192 in
theorem al_81 (h : Holds V0 s j) : (constantI S_ 32 0#32 : (Proc.devRef .tc main_while0b_c_49 : DevRef τ sig).ty.Contents (Elt F)) = Cert.TreeGru.Step.b81 j s := by
  unfold Cert.TreeGru.Step.b81
  rfl
set_option maxRecDepth 8192 in
theorem al_82 (h : Holds V0 s j) : (select (cmpi .slt (constantI S_ 32 0#32) (constantI S_ 32 0#32)) (addi (constantI S_ 32 0#32) (constantI S_ 32 8#32)) (constantI S_ 32 0#32) : (Proc.devRef .tc main_while0b_v53 : DevRef τ sig).ty.Contents (Elt F)) = Cert.TreeGru.Step.b82 j s := by
  unfold Cert.TreeGru.Step.b82
  rw [← al_77 h, ← al_80 h, ← al_81 h]
  try rfl
set_option maxRecDepth 8192 in
theorem al_83 (h : Holds V0 s j) : (Host.dynamicSlice S1x8 (V0 (Proc.devRef .tc main_v7_4)) (fun k => (((![select (cmpi .slt (res_main_while0b_v10 V0) (constantI S_ 32 0#32)) (addi (res_main_while0b_v10 V0) (constantI S_ 32 512#32)) (res_main_while0b_v10 V0), select (cmpi .slt (constantI S_ 32 0#32) (constantI S_ 32 0#32)) (addi (constantI S_ 32 0#32) (constantI S_ 32 8#32)) (constantI S_ 32 0#32)] : Fin 2 → (⟨S_, .i32⟩ : BufTy).Contents (Elt F))) k (Shape.Idx.first h_S_)).toInt) sliceFits_S512x8_S1x8 : (Proc.devRef .tc main_while0b_v54 : DevRef τ sig).ty.Contents (Elt F)) = Cert.TreeGru.Step.b83 j s := by
  unfold Cert.TreeGru.Step.b83
  rw [← al_74 h, ← al_82 h, h.f_4]
  try rfl
set_option maxRecDepth 8192 in
theorem al_84 (h : Holds V0 s j) : (shapeCast S8 (Host.dynamicSlice S1x8 (V0 (Proc.devRef .tc main_v7_4)) (fun k => (((![select (cmpi .slt (res_main_while0b_v10 V0) (constantI S_ 32 0#32)) (addi (res_main_while0b_v10 V0) (constantI S_ 32 512#32)) (res_main_while0b_v10 V0), select (cmpi .slt (constantI S_ 32 0#32) (constantI S_ 32 0#32)) (addi (constantI S_ 32 0#32) (constantI S_ 32 8#32)) (constantI S_ 32 0#32)] : Fin 2 → (⟨S_, .i32⟩ : BufTy).Contents (Elt F))) k (Shape.Idx.first h_S_)).toInt) sliceFits_S512x8_S1x8) shapeCasts_S1x8_S8 : (Proc.devRef .tc main_while0b_v55 : DevRef τ sig).ty.Contents (Elt F)) = Cert.TreeGru.Step.b84 j s := by
  unfold Cert.TreeGru.Step.b84
  rw [← al_83 h]
  try rfl
set_option maxRecDepth 8192 in
theorem al_85 (h : Holds V0 s j) : (res_main_while0b_v56 V0 : (Proc.devRef .tc main_while0b_v56 : DevRef τ sig).ty.Contents (Elt F)) = Cert.TreeGru.Step.b85 j s := by
  unfold res_main_while0b_v56 Cert.TreeGru.Step.b85
  rw [← al_84 h]
  try rfl
set_option maxRecDepth 8192 in
theorem al_86 (h : Holds V0 s j) : (andi (res_main_while0b_v47 V0) (res_main_while0b_v56 V0) : (Proc.devRef .tc main_while0b_v57 : DevRef τ sig).ty.Contents (Elt F)) = Cert.TreeGru.Step.b86 j s := by
  unfold Cert.TreeGru.Step.b86
  rw [← al_69 h, ← al_85 h]
  try rfl
set_option maxRecDepth 8192 in
theorem al_87 (h : Holds V0 s j) : (constant S_ .f32 0x00000000#32 : (Proc.devRef .tc main_while0b_cst_50 : DevRef τ sig).ty.Contents (Elt F)) = Cert.TreeGru.Step.b87 j s := by
  unfold Cert.TreeGru.Step.b87
  rfl
set_option maxRecDepth 8192 in
theorem al_88 (h : Holds V0 s j) : (id (constant S_ .f32 0x00000000#32) : (Proc.devRef .tc main_while0b_call2_v0 : DevRef τ sig).ty.Contents (Elt F)) = Cert.TreeGru.Step.b88 j s := by
  unfold Cert.TreeGru.Step.b88
  rw [← al_87 h]
  try rfl
set_option maxRecDepth 8192 in
theorem al_89 (h : Holds V0 s j) : (broadcastInDim S8x256 ![0, 1] bcast_S8x1_S8x256_0_1 (andi (res_main_while0b_v47 V0) (res_main_while0b_v56 V0)) : (Proc.devRef .tc main_while0b_call2_v1 : DevRef τ sig).ty.Contents (Elt F)) = Cert.TreeGru.Step.b89 j s := by
  unfold Cert.TreeGru.Step.b89
  rw [← al_86 h]
  try rfl
set_option maxRecDepth 8192 in
theorem al_90 (h : Holds V0 s j) : (broadcastInDim S8x256 ![] bcast_S_S8x256 (id (constant S_ .f32 0x00000000#32)) : (Proc.devRef .tc main_while0b_call2_v2 : DevRef τ sig).ty.Contents (Elt F)) = Cert.TreeGru.Step.b90 j s := by
  unfold Cert.TreeGru.Step.b90
  rw [← al_88 h]
  try rfl
set_option maxRecDepth 8192 in
theorem al_91 (h : Holds V0 s j) : (res_main_while0b_v58 V0 : (Proc.devRef .tc main_while0b_v58 : DevRef τ sig).ty.Contents (Elt F)) = Cert.TreeGru.Step.b91 j s := by
  unfold res_main_while0b_v58 Cert.TreeGru.Step.b91
  rw [← al_89 h, ← al_65 h, ← al_90 h]
  try rfl
set_option maxRecDepth 8192 in
theorem al_92 (h : Holds V0 s j) : (noti (res_main_while0b_v56 V0) : (Proc.devRef .tc main_while0b_v59 : DevRef τ sig).ty.Contents (Elt F)) = Cert.TreeGru.Step.b92 j s := by
  unfold Cert.TreeGru.Step.b92
  rw [← al_85 h]
  try rfl
set_option maxRecDepth 8192 in
theorem al_93 (h : Holds V0 s j) : (andi (res_main_while0b_v47 V0) (noti (res_main_while0b_v56 V0)) : (Proc.devRef .tc main_while0b_v60 : DevRef τ sig).ty.Contents (Elt F)) = Cert.TreeGru.Step.b93 j s := by
  unfold Cert.TreeGru.Step.b93
  rw [← al_69 h, ← al_92 h]
  try rfl
set_option maxRecDepth 8192 in
theorem al_94 (h : Holds V0 s j) : (constant S_ .f32 0x00000000#32 : (Proc.devRef .tc main_while0b_cst_51 : DevRef τ sig).ty.Contents (Elt F)) = Cert.TreeGru.Step.b94 j s := by
  unfold Cert.TreeGru.Step.b94
  rfl
set_option maxRecDepth 8192 in
theorem al_95 (h : Holds V0 s j) : (id (constant S_ .f32 0x00000000#32) : (Proc.devRef .tc main_while0b_call3_v0 : DevRef τ sig).ty.Contents (Elt F)) = Cert.TreeGru.Step.b95 j s := by
  unfold Cert.TreeGru.Step.b95
  rw [← al_94 h]
  try rfl
set_option maxRecDepth 8192 in
theorem al_96 (h : Holds V0 s j) : (broadcastInDim S8x256 ![0, 1] bcast_S8x1_S8x256_0_1 (andi (res_main_while0b_v47 V0) (noti (res_main_while0b_v56 V0))) : (Proc.devRef .tc main_while0b_call3_v1 : DevRef τ sig).ty.Contents (Elt F)) = Cert.TreeGru.Step.b96 j s := by
  unfold Cert.TreeGru.Step.b96
  rw [← al_93 h]
  try rfl
set_option maxRecDepth 8192 in
theorem al_97 (h : Holds V0 s j) : (broadcastInDim S8x256 ![] bcast_S_S8x256 (id (constant S_ .f32 0x00000000#32)) : (Proc.devRef .tc main_while0b_call3_v2 : DevRef τ sig).ty.Contents (Elt F)) = Cert.TreeGru.Step.b97 j s := by
  unfold Cert.TreeGru.Step.b97
  rw [← al_95 h]
  try rfl
set_option maxRecDepth 8192 in
theorem al_98 (h : Holds V0 s j) : (res_main_while0b_v61 V0 : (Proc.devRef .tc main_while0b_v61 : DevRef τ sig).ty.Contents (Elt F)) = Cert.TreeGru.Step.b98 j s := by
  unfold res_main_while0b_v61 Cert.TreeGru.Step.b98
  rw [← al_96 h, ← al_65 h, ← al_97 h]
  try rfl
set_option maxRecDepth 8192 in
theorem al_99 (h : Holds V0 s j) : (transpose S256x768 [1, 0] (V0 (Proc.devRef .tc main_v7_5)) transposes_S768x256_S256x768_1_0 : (Proc.devRef .tc main_while0b_v62 : DevRef τ sig).ty.Contents (Elt F)) = Cert.TreeGru.Step.b99 j s := by
  unfold Cert.TreeGru.Step.b99
  rw [h.f_5]
  try rfl
set_option maxRecDepth 8192 in
theorem al_100 (h : Holds V0 s j) : (Host.dotGeneral dot_S8x256_S256x768_S8x768_1_0_0_1_n_n none (res_main_while0b_v21 V0) (transpose S256x768 [1, 0] (V0 (Proc.devRef .tc main_v7_5)) transposes_S768x256_S256x768_1_0) : (Proc.devRef .tc main_while0b_v63 : DevRef τ sig).ty.Contents (Elt F)) = Cert.TreeGru.Step.b100 j s := by
  unfold Cert.TreeGru.Step.b100
  rw [← al_24 h, ← al_99 h]
  try rfl
set_option maxRecDepth 8192 in
theorem al_101 (h : Holds V0 s j) : (broadcastInDim S1x768 ![1] bcast_S768_S1x768_1 (V0 (Proc.devRef .tc main_v7_6)) : (Proc.devRef .tc main_while0b_v64 : DevRef τ sig).ty.Contents (Elt F)) = Cert.TreeGru.Step.b101 j s := by
  unfold Cert.TreeGru.Step.b101
  rw [h.f_6]
  try rfl
set_option maxRecDepth 8192 in
theorem al_102 (h : Holds V0 s j) : (broadcastInDim S8x768 ![0, 1] bcast_S1x768_S8x768_0_1 (broadcastInDim S1x768 ![1] bcast_S768_S1x768_1 (V0 (Proc.devRef .tc main_v7_6))) : (Proc.devRef .tc main_while0b_v65 : DevRef τ sig).ty.Contents (Elt F)) = Cert.TreeGru.Step.b102 j s := by
  unfold Cert.TreeGru.Step.b102
  rw [← al_101 h]
  try rfl
set_option maxRecDepth 8192 in
theorem al_103 (h : Holds V0 s j) : (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6)))) : (Proc.devRef .tc main_while0b_v66 : DevRef τ sig).ty.Contents (Elt F)) = Cert.TreeGru.Step.b103 j s := by
  unfold Cert.TreeGru.Step.b103
  rw [← al_100 h, ← al_102 h]
  try rfl
set_option maxRecDepth 8192 in
theorem al_104 (h : Holds V0 s j) : (transpose S256x768 [1, 0] (V0 (Proc.devRef .tc main_v7_7)) transposes_S768x256_S256x768_1_0 : (Proc.devRef .tc main_while0b_v67 : DevRef τ sig).ty.Contents (Elt F)) = Cert.TreeGru.Step.b104 j s := by
  unfold Cert.TreeGru.Step.b104
  rw [h.f_7]
  try rfl
set_option maxRecDepth 8192 in
theorem al_105 (h : Holds V0 s j) : (Host.dotGeneral dot_S8x256_S256x768_S8x768_1_0_0_1_n_n none (res_main_while0b_v58 V0) (transpose S256x768 [1, 0] (V0 (Proc.devRef .tc main_v7_7)) transposes_S768x256_S256x768_1_0) : (Proc.devRef .tc main_while0b_v68 : DevRef τ sig).ty.Contents (Elt F)) = Cert.TreeGru.Step.b105 j s := by
  unfold Cert.TreeGru.Step.b105
  rw [← al_91 h, ← al_104 h]
  try rfl
set_option maxRecDepth 8192 in
theorem al_106 (h : Holds V0 s j) : (addf (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6))))) (Host.dotGeneral dot_S8x256_S256x768_S8x768_1_0_0_1_n_n none (res_main_while0b_v58 V0) (transpose S256x768 [1, 0] (V0 (Proc.devRef .tc main_v7_7)) transposes_S768x256_S256x768_1_0)) : (Proc.devRef .tc main_while0b_v69 : DevRef τ sig).ty.Contents (Elt F)) = Cert.TreeGru.Step.b106 j s := by
  unfold Cert.TreeGru.Step.b106
  rw [← al_103 h, ← al_105 h]
  try rfl
set_option maxRecDepth 8192 in
theorem al_107 (h : Holds V0 s j) : (transpose S256x768 [1, 0] (V0 (Proc.devRef .tc main_v7_8)) transposes_S768x256_S256x768_1_0 : (Proc.devRef .tc main_while0b_v70 : DevRef τ sig).ty.Contents (Elt F)) = Cert.TreeGru.Step.b107 j s := by
  unfold Cert.TreeGru.Step.b107
  rw [h.f_8]
  try rfl
set_option maxRecDepth 8192 in
theorem al_108 (h : Holds V0 s j) : (Host.dotGeneral dot_S8x256_S256x768_S8x768_1_0_0_1_n_n none (res_main_while0b_v61 V0) (transpose S256x768 [1, 0] (V0 (Proc.devRef .tc main_v7_8)) transposes_S768x256_S256x768_1_0) : (Proc.devRef .tc main_while0b_v71 : DevRef τ sig).ty.Contents (Elt F)) = Cert.TreeGru.Step.b108 j s := by
  unfold Cert.TreeGru.Step.b108
  rw [← al_98 h, ← al_107 h]
  try rfl
set_option maxRecDepth 8192 in
theorem al_109 (h : Holds V0 s j) : (addf (addf (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6))))) (Host.dotGeneral dot_S8x256_S256x768_S8x768_1_0_0_1_n_n none (res_main_while0b_v58 V0) (transpose S256x768 [1, 0] (V0 (Proc.devRef .tc main_v7_7)) transposes_S768x256_S256x768_1_0))) (Host.dotGeneral dot_S8x256_S256x768_S8x768_1_0_0_1_n_n none (res_main_while0b_v61 V0) (transpose S256x768 [1, 0] (V0 (Proc.devRef .tc main_v7_8)) transposes_S768x256_S256x768_1_0)) : (Proc.devRef .tc main_while0b_v72 : DevRef τ sig).ty.Contents (Elt F)) = Cert.TreeGru.Step.b109 j s := by
  unfold Cert.TreeGru.Step.b109
  rw [← al_106 h, ← al_108 h]
  try rfl
set_option maxRecDepth 8192 in
theorem al_110 (h : Holds V0 s j) : (Host.negf (addf (addf (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6))))) (Host.dotGeneral dot_S8x256_S256x768_S8x768_1_0_0_1_n_n none (res_main_while0b_v58 V0) (transpose S256x768 [1, 0] (V0 (Proc.devRef .tc main_v7_7)) transposes_S768x256_S256x768_1_0))) (Host.dotGeneral dot_S8x256_S256x768_S8x768_1_0_0_1_n_n none (res_main_while0b_v61 V0) (transpose S256x768 [1, 0] (V0 (Proc.devRef .tc main_v7_8)) transposes_S768x256_S256x768_1_0))) : (Proc.devRef .tc main_while0b_v73 : DevRef τ sig).ty.Contents (Elt F)) = Cert.TreeGru.Step.b110 j s := by
  unfold Cert.TreeGru.Step.b110
  rw [← al_109 h]
  try rfl
set_option maxRecDepth 8192 in
theorem al_111 (h : Holds V0 s j) : (Host.exp (Host.negf (addf (addf (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6))))) (Host.dotGeneral dot_S8x256_S256x768_S8x768_1_0_0_1_n_n none (res_main_while0b_v58 V0) (transpose S256x768 [1, 0] (V0 (Proc.devRef .tc main_v7_7)) transposes_S768x256_S256x768_1_0))) (Host.dotGeneral dot_S8x256_S256x768_S8x768_1_0_0_1_n_n none (res_main_while0b_v61 V0) (transpose S256x768 [1, 0] (V0 (Proc.devRef .tc main_v7_8)) transposes_S768x256_S256x768_1_0)))) : (Proc.devRef .tc main_while0b_v74 : DevRef τ sig).ty.Contents (Elt F)) = Cert.TreeGru.Step.b111 j s := by
  unfold Cert.TreeGru.Step.b111
  rw [← al_110 h]
  try rfl
set_option maxRecDepth 8192 in
theorem al_112 (h : Holds V0 s j) : (constant S_ .f32 0x3F800000#32 : (Proc.devRef .tc main_while0b_cst_52 : DevRef τ sig).ty.Contents (Elt F)) = Cert.TreeGru.Step.b112 j s := by
  unfold Cert.TreeGru.Step.b112
  rfl
set_option maxRecDepth 8192 in
theorem al_113 (h : Holds V0 s j) : (broadcastInDim S8x768 ![] bcast_S_S8x768 (constant S_ .f32 0x3F800000#32) : (Proc.devRef .tc main_while0b_v75 : DevRef τ sig).ty.Contents (Elt F)) = Cert.TreeGru.Step.b113 j s := by
  unfold Cert.TreeGru.Step.b113
  rw [← al_112 h]
  try rfl
set_option maxRecDepth 8192 in
theorem al_114 (h : Holds V0 s j) : (addf (broadcastInDim S8x768 ![] bcast_S_S8x768 (constant S_ .f32 0x3F800000#32)) (Host.exp (Host.negf (addf (addf (addf (Host.dotGeneral dot_S8x256_S256x768_S8x768_1_0_0_1_n_n none (res_main_while0b_v21 V0) (transpose S256x768 [1, 0] (V0 (Proc.devRef .tc main_v7_5)) transposes_S768x256_S256x768_1_0)) (broadcastInDim S8x768 ![0, 1] bcast_S1x768_S8x768_0_1 (broadcastInDim S1x768 ![1] bcast_S768_S1x768_1 (V0 (Proc.devRef .tc main_v7_6))))) (Host.dotGeneral dot_S8x256_S256x768_S8x768_1_0_0_1_n_n none (res_main_while0b_v58 V0) (transpose S256x768 [1, 0] (V0 (Proc.devRef .tc main_v7_7)) transposes_S768x256_S256x768_1_0))) (Host.dotGeneral dot_S8x256_S256x768_S8x768_1_0_0_1_n_n none (res_main_while0b_v61 V0) (transpose S256x768 [1, 0] (V0 (Proc.devRef .tc main_v7_8)) transposes_S768x256_S256x768_1_0))))) : (Proc.devRef .tc main_while0b_v76 : DevRef τ sig).ty.Contents (Elt F)) = Cert.TreeGru.Step.b114 j s := by
  unfold Cert.TreeGru.Step.b114
  rw [← al_113 h, ← al_111 h]
  try rfl
set_option maxRecDepth 8192 in
theorem al_115 (h : Holds V0 s j) : (constant S_ .f32 0x3F800000#32 : (Proc.devRef .tc main_while0b_cst_53 : DevRef τ sig).ty.Contents (Elt F)) = Cert.TreeGru.Step.b115 j s := by
  unfold Cert.TreeGru.Step.b115
  rfl
set_option maxRecDepth 8192 in
theorem al_116 (h : Holds V0 s j) : (broadcastInDim S8x768 ![] bcast_S_S8x768 (constant S_ .f32 0x3F800000#32) : (Proc.devRef .tc main_while0b_v77 : DevRef τ sig).ty.Contents (Elt F)) = Cert.TreeGru.Step.b116 j s := by
  unfold Cert.TreeGru.Step.b116
  rw [← al_115 h]
  try rfl
set_option maxRecDepth 8192 in
theorem al_117 (h : Holds V0 s j) : (res_main_while0b_v78 V0 : (Proc.devRef .tc main_while0b_v78 : DevRef τ sig).ty.Contents (Elt F)) = Cert.TreeGru.Step.b117 j s := by
  unfold res_main_while0b_v78 Cert.TreeGru.Step.b117
  rw [← al_116 h, ← al_114 h]
  try rfl
set_option maxRecDepth 8192 in
theorem al_118 (h : Holds V0 s j) : (res_main_while0b_v79 V0 : (Proc.devRef .tc main_while0b_v79 : DevRef τ sig).ty.Contents (Elt F)) = Cert.TreeGru.Step.b118 j s := by
  unfold res_main_while0b_v79 Cert.TreeGru.Step.b118
  rw [← al_117 h]
  try rfl
set_option maxRecDepth 8192 in
theorem al_119 (h : Holds V0 s j) : (extractStridedSlice S8x256 ![0, 256] (res_main_while0b_v78 V0) slices_S8x768_S8x256_0_256 : (Proc.devRef .tc main_while0b_v80 : DevRef τ sig).ty.Contents (Elt F)) = Cert.TreeGru.Step.b119 j s := by
  unfold Cert.TreeGru.Step.b119
  rw [← al_117 h]
  try rfl
set_option maxRecDepth 8192 in
theorem al_120 (h : Holds V0 s j) : (extractStridedSlice S8x256 ![0, 512] (res_main_while0b_v78 V0) slices_S8x768_S8x256_0_512 : (Proc.devRef .tc main_while0b_v81 : DevRef τ sig).ty.Contents (Elt F)) = Cert.TreeGru.Step.b120 j s := by
  unfold Cert.TreeGru.Step.b120
  rw [← al_117 h]
  try rfl
set_option maxRecDepth 8192 in
theorem al_121 (h : Holds V0 s j) : (transpose S256x256 [1, 0] (V0 (Proc.devRef .tc main_v7_9)) transposes_S256x256_S256x256_1_0 : (Proc.devRef .tc main_while0b_v82 : DevRef τ sig).ty.Contents (Elt F)) = Cert.TreeGru.Step.b121 j s := by
  unfold Cert.TreeGru.Step.b121
  rw [h.f_9]
  try rfl
set_option maxRecDepth 8192 in
theorem al_122 (h : Holds V0 s j) : (Host.dotGeneral dot_S8x256_S256x256_S8x256_1_0_0_1_n_n none (res_main_while0b_v21 V0) (transpose S256x256 [1, 0] (V0 (Proc.devRef .tc main_v7_9)) transposes_S256x256_S256x256_1_0) : (Proc.devRef .tc main_while0b_v83 : DevRef τ sig).ty.Contents (Elt F)) = Cert.TreeGru.Step.b122 j s := by
  unfold Cert.TreeGru.Step.b122
  rw [← al_24 h, ← al_121 h]
  try rfl
set_option maxRecDepth 8192 in
theorem al_123 (h : Holds V0 s j) : (broadcastInDim S1x256 ![1] bcast_S256_S1x256_1 (V0 (Proc.devRef .tc main_v7_10)) : (Proc.devRef .tc main_while0b_v84 : DevRef τ sig).ty.Contents (Elt F)) = Cert.TreeGru.Step.b123 j s := by
  unfold Cert.TreeGru.Step.b123
  rw [h.f_10]
  try rfl
set_option maxRecDepth 8192 in
theorem al_124 (h : Holds V0 s j) : (broadcastInDim S8x256 ![0, 1] bcast_S1x256_S8x256_0_1 (broadcastInDim S1x256 ![1] bcast_S256_S1x256_1 (V0 (Proc.devRef .tc main_v7_10))) : (Proc.devRef .tc main_while0b_v85 : DevRef τ sig).ty.Contents (Elt F)) = Cert.TreeGru.Step.b124 j s := by
  unfold Cert.TreeGru.Step.b124
  rw [← al_123 h]
  try rfl
set_option maxRecDepth 8192 in
theorem al_125 (h : Holds V0 s j) : (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10)))) : (Proc.devRef .tc main_while0b_v86 : DevRef τ sig).ty.Contents (Elt F)) = Cert.TreeGru.Step.b125 j s := by
  unfold Cert.TreeGru.Step.b125
  rw [← al_122 h, ← al_124 h]
  try rfl
set_option maxRecDepth 8192 in
theorem al_126 (h : Holds V0 s j) : (mulf (res_main_while0b_v79 V0) (res_main_while0b_v58 V0) : (Proc.devRef .tc main_while0b_v87 : DevRef τ sig).ty.Contents (Elt F)) = Cert.TreeGru.Step.b126 j s := by
  unfold Cert.TreeGru.Step.b126
  rw [← al_118 h, ← al_91 h]
  try rfl
set_option maxRecDepth 8192 in
theorem al_127 (h : Holds V0 s j) : (transpose S256x256 [1, 0] (V0 (Proc.devRef .tc main_v7_11)) transposes_S256x256_S256x256_1_0 : (Proc.devRef .tc main_while0b_v88 : DevRef τ sig).ty.Contents (Elt F)) = Cert.TreeGru.Step.b127 j s := by
  unfold Cert.TreeGru.Step.b127
  rw [h.f_11]
  try rfl
set_option maxRecDepth 8192 in
theorem al_128 (h : Holds V0 s j) : (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0) : (Proc.devRef .tc main_while0b_v89 : DevRef τ sig).ty.Contents (Elt F)) = Cert.TreeGru.Step.b128 j s := by
  unfold Cert.TreeGru.Step.b128
  rw [← al_126 h, ← al_127 h]
  try rfl
set_option maxRecDepth 8192 in
theorem al_129 (h : Holds V0 s j) : (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0)) : (Proc.devRef .tc main_while0b_v90 : DevRef τ sig).ty.Contents (Elt F)) = Cert.TreeGru.Step.b129 j s := by
  unfold Cert.TreeGru.Step.b129
  rw [← al_125 h, ← al_128 h]
  try rfl
set_option maxRecDepth 8192 in
theorem al_130 (h : Holds V0 s j) : (mulf (res_main_while0b_v79 V0) (res_main_while0b_v61 V0) : (Proc.devRef .tc main_while0b_v91 : DevRef τ sig).ty.Contents (Elt F)) = Cert.TreeGru.Step.b130 j s := by
  unfold Cert.TreeGru.Step.b130
  rw [← al_118 h, ← al_98 h]
  try rfl
set_option maxRecDepth 8192 in
theorem al_131 (h : Holds V0 s j) : (transpose S256x256 [1, 0] (V0 (Proc.devRef .tc main_v7_12)) transposes_S256x256_S256x256_1_0 : (Proc.devRef .tc main_while0b_v92 : DevRef τ sig).ty.Contents (Elt F)) = Cert.TreeGru.Step.b131 j s := by
  unfold Cert.TreeGru.Step.b131
  rw [h.f_12]
  try rfl
set_option maxRecDepth 8192 in
theorem al_132 (h : Holds V0 s j) : (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0) : (Proc.devRef .tc main_while0b_v93 : DevRef τ sig).ty.Contents (Elt F)) = Cert.TreeGru.Step.b132 j s := by
  unfold Cert.TreeGru.Step.b132
  rw [← al_130 h, ← al_131 h]
  try rfl
set_option maxRecDepth 8192 in
theorem al_133 (h : Holds V0 s j) : (addf (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0))) (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0)) : (Proc.devRef .tc main_while0b_v94 : DevRef τ sig).ty.Contents (Elt F)) = Cert.TreeGru.Step.b133 j s := by
  unfold Cert.TreeGru.Step.b133
  rw [← al_129 h, ← al_132 h]
  try rfl
set_option maxRecDepth 8192 in
theorem al_134 (h : Holds V0 s j) : (Host.tanh (addf (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0))) (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0))) : (Proc.devRef .tc main_while0b_v95 : DevRef τ sig).ty.Contents (Elt F)) = Cert.TreeGru.Step.b134 j s := by
  unfold Cert.TreeGru.Step.b134
  rw [← al_133 h]
  try rfl
set_option maxRecDepth 8192 in
theorem al_135 (h : Holds V0 s j) : (addf (res_main_while0b_v58 V0) (res_main_while0b_v61 V0) : (Proc.devRef .tc main_while0b_v96 : DevRef τ sig).ty.Contents (Elt F)) = Cert.TreeGru.Step.b135 j s := by
  unfold Cert.TreeGru.Step.b135
  rw [← al_91 h, ← al_98 h]
  try rfl
set_option maxRecDepth 8192 in
theorem al_136 (h : Holds V0 s j) : (mulf (extractStridedSlice S8x256 ![0, 256] (res_main_while0b_v78 V0) slices_S8x768_S8x256_0_256) (addf (res_main_while0b_v58 V0) (res_main_while0b_v61 V0)) : (Proc.devRef .tc main_while0b_v97 : DevRef τ sig).ty.Contents (Elt F)) = Cert.TreeGru.Step.b136 j s := by
  unfold Cert.TreeGru.Step.b136
  rw [← al_119 h, ← al_135 h]
  try rfl
set_option maxRecDepth 8192 in
theorem al_137 (h : Holds V0 s j) : (mulf (extractStridedSlice S8x256 ![0, 512] (res_main_while0b_v78 V0) slices_S8x768_S8x256_0_512) (Host.tanh (addf (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0))) (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0)))) : (Proc.devRef .tc main_while0b_v98 : DevRef τ sig).ty.Contents (Elt F)) = Cert.TreeGru.Step.b137 j s := by
  unfold Cert.TreeGru.Step.b137
  rw [← al_120 h, ← al_134 h]
  try rfl
set_option maxRecDepth 8192 in
theorem al_138 (h : Holds V0 s j) : (addf (mulf (extractStridedSlice S8x256 ![0, 256] (res_main_while0b_v78 V0) slices_S8x768_S8x256_0_256) (addf (res_main_while0b_v58 V0) (res_main_while0b_v61 V0))) (mulf (extractStridedSlice S8x256 ![0, 512] (res_main_while0b_v78 V0) slices_S8x768_S8x256_0_512) (Host.tanh (addf (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0))) (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0))))) : (Proc.devRef .tc main_while0b_v99 : DevRef τ sig).ty.Contents (Elt F)) = Cert.TreeGru.Step.b138 j s := by
  unfold Cert.TreeGru.Step.b138
  rw [← al_136 h, ← al_137 h]
  try rfl
set_option maxRecDepth 8192 in
theorem al_139 (h : Holds V0 s j) : (constantI S_ 32 0#32 : (Proc.devRef .tc main_while0b_c_54 : DevRef τ sig).ty.Contents (Elt F)) = Cert.TreeGru.Step.b139 j s := by
  unfold Cert.TreeGru.Step.b139
  rfl
set_option maxRecDepth 8192 in
theorem al_140 (h : Holds V0 s j) : (cmpi .slt (res_main_while0b_v10 V0) (constantI S_ 32 0#32) : (Proc.devRef .tc main_while0b_v100 : DevRef τ sig).ty.Contents (Elt F)) = Cert.TreeGru.Step.b140 j s := by
  unfold Cert.TreeGru.Step.b140
  rw [← al_1 h, ← al_139 h]
  try rfl
set_option maxRecDepth 8192 in
theorem al_141 (h : Holds V0 s j) : (constantI S_ 32 512#32 : (Proc.devRef .tc main_while0b_c_55 : DevRef τ sig).ty.Contents (Elt F)) = Cert.TreeGru.Step.b141 j s := by
  unfold Cert.TreeGru.Step.b141
  rfl
set_option maxRecDepth 8192 in
theorem al_142 (h : Holds V0 s j) : (addi (res_main_while0b_v10 V0) (constantI S_ 32 512#32) : (Proc.devRef .tc main_while0b_v101 : DevRef τ sig).ty.Contents (Elt F)) = Cert.TreeGru.Step.b142 j s := by
  unfold Cert.TreeGru.Step.b142
  rw [← al_1 h, ← al_141 h]
  try rfl
set_option maxRecDepth 8192 in
theorem al_143 (h : Holds V0 s j) : (select (cmpi .slt (res_main_while0b_v10 V0) (constantI S_ 32 0#32)) (addi (res_main_while0b_v10 V0) (constantI S_ 32 512#32)) (res_main_while0b_v10 V0) : (Proc.devRef .tc main_while0b_v102 : DevRef τ sig).ty.Contents (Elt F)) = Cert.TreeGru.Step.b143 j s := by
  unfold Cert.TreeGru.Step.b143
  rw [← al_140 h, ← al_142 h, ← al_1 h]
  try rfl
set_option maxRecDepth 8192 in
theorem al_144 (h : Holds V0 s j) : (broadcastInDim S1 ![] bcast_S_S1 (select (cmpi .slt (res_main_while0b_v10 V0) (constantI S_ 32 0#32)) (addi (res_main_while0b_v10 V0) (constantI S_ 32 512#32)) (res_main_while0b_v10 V0)) : (Proc.devRef .tc main_while0b_v103 : DevRef τ sig).ty.Contents (Elt F)) = Cert.TreeGru.Step.b144 j s := by
  unfold Cert.TreeGru.Step.b144
  rw [← al_143 h]
  try rfl
set_option maxRecDepth 8192 in
theorem al_145 (h : Holds V0 s j) : (Host.scatter scatter_S512x8x256_S1_S8x256_01_0_0_0 (fun _ b => b) (V0 (Proc.devRef .tc main_v7_14)) (broadcastInDim S1 ![] bcast_S_S1 (select (cmpi .slt (res_main_while0b_v10 V0) (constantI S_ 32 0#32)) (addi (res_main_while0b_v10 V0) (constantI S_ 32 512#32)) (res_main_while0b_v10 V0))) (addf (mulf (extractStridedSlice S8x256 ![0, 256] (res_main_while0b_v78 V0) slices_S8x768_S8x256_0_256) (addf (res_main_while0b_v58 V0) (res_main_while0b_v61 V0))) (mulf (extractStridedSlice S8x256 ![0, 512] (res_main_while0b_v78 V0) slices_S8x768_S8x256_0_512) (Host.tanh (addf (addf (addf (Host.dotGeneral dot_S8x256_S256x256_S8x256_1_0_0_1_n_n none (res_main_while0b_v21 V0) (transpose S256x256 [1, 0] (V0 (Proc.devRef .tc main_v7_9)) transposes_S256x256_S256x256_1_0)) (broadcastInDim S8x256 ![0, 1] bcast_S1x256_S8x256_0_1 (broadcastInDim S1x256 ![1] bcast_S256_S1x256_1 (V0 (Proc.devRef .tc main_v7_10))))) (Host.dotGeneral dot_S8x256_S256x256_S8x256_1_0_0_1_n_n none (mulf (res_main_while0b_v79 V0) (res_main_while0b_v58 V0)) (transpose S256x256 [1, 0] (V0 (Proc.devRef .tc main_v7_11)) transposes_S256x256_S256x256_1_0))) (Host.dotGeneral dot_S8x256_S256x256_S8x256_1_0_0_1_n_n none (mulf (res_main_while0b_v79 V0) (res_main_while0b_v61 V0)) (transpose S256x256 [1, 0] (V0 (Proc.devRef .tc main_v7_12)) transposes_S256x256_S256x256_1_0)))))) : (Proc.devRef .tc main_while0b_v104 : DevRef τ sig).ty.Contents (Elt F)) = Cert.TreeGru.Step.b145 j s := by
  unfold Cert.TreeGru.Step.b145
  rw [← al_144 h, ← al_138 h, h.f_14]
  try rfl

/-! One trip's step of the carried values is `step`, field by field; a counter steps to the next number. -/

theorem step_14 (h : Holds V0 s j) : step_main_v7_14 V0 = (step j s).main_v7_14 := by
  rw [Cert.TreeGru.Step.step_main_v7_14]
  unfold step_main_v7_14
  exact al_145 h
theorem step_13 (h : Holds V0 s j) : step_main_v7_13 V0 = constantI S_ 32 (BitVec.ofNat 32 (j + 1)) := by
  unfold step_main_v7_13
  rw [h.n_13]
  funext i
  show BitVec.ofNat 32 j + 1#32 = BitVec.ofNat 32 (j + 1)
  simp only [BitVec.ofNat_add]

set_option maxRecDepth 8192 in
theorem out_main_v8_holds (h : Holds V0 s j) : out_main_v8 V0 = Cert.TreeGru.Step.R_main_v8 s := by
  unfold out_main_v8 Cert.TreeGru.Step.R_main_v8
  rw [h.f_14]
  try rfl

set_option maxRecDepth 8192 in
theorem out_main_v9_holds (h : Holds V0 s j) : out_main_v9 V0 = Cert.TreeGru.Step.R_main_v9 s := by
  unfold out_main_v9 Cert.TreeGru.Step.R_main_v9
  rw []
  try rfl

/-- One trip keeps the valuation holding: `step` of the state, the same set-up values, the next number. -/
theorem holds_step (h : Holds V0 s j) : Holds (STEP V0) (step j s) (j + 1) where
  f_14 := (STEP_main_v7_14 V0).trans (step_14 h)
  n_13 := (STEP_main_v7_13 V0).trans (step_13 h)
  k_0 := (STEP_main_v7_0 V0).trans h.k_0
  k_3 := (STEP_main_v7_3 V0).trans h.k_3
  f_1 := (STEP_main_v7_1 V0).trans h.f_1
  f_2 := (STEP_main_v7_2 V0).trans h.f_2
  f_4 := (STEP_main_v7_4 V0).trans h.f_4
  f_5 := (STEP_main_v7_5 V0).trans h.f_5
  f_6 := (STEP_main_v7_6 V0).trans h.f_6
  f_7 := (STEP_main_v7_7 V0).trans h.f_7
  f_8 := (STEP_main_v7_8 V0).trans h.f_8
  f_9 := (STEP_main_v7_9 V0).trans h.f_9
  f_10 := (STEP_main_v7_10 V0).trans h.f_10
  f_11 := (STEP_main_v7_11 V0).trans h.f_11
  f_12 := (STEP_main_v7_12 V0).trans h.f_12

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v8) = Cert.TreeGru.Step.R_main_v8 (it c 512)
      ∧ r.2.mem ((c.tc : Thread nD τ).loc main_v9) = Cert.TreeGru.Step.R_main_v9 (it c 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 512
    ⟨(h c).1.trans (out_main_v8_holds hk), (h c).2.1.trans (out_main_v9_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.TreeGru.StepRun

end
-- ==== Proof.Chain.lean ====
/- What the precondition says: the parents and sides are those of the right-branching chain. -/
module

public import proofs.«01_k».proof.Defs
public import Idealize.ShloMosaic.Lib.Pointwise

@[expose] public section

set_option maxRecDepth 16384

noncomputable section

namespace Cert.TreeGru

open Idealize.ShloMosaic Cert.Pre_right_branching

/-- The shape relation that the precondition states. -/
instance chain_facts : Cert.Pre_right_branching.Facts := ⟨by decide⟩

/-- The precondition's word at a node and a row. -/
theorem fn_apply (a0 : FVec Ideal S512x8x256 .f32) (a1 : IVec S512x8 32) (a2 : IVec S512x8 1) (a3 : FVec Ideal S768x256 .f32)
    (a4 : FVec Ideal S768 .f32) (a5 a6 : FVec Ideal S768x256 .f32) (a7 : FVec Ideal S256x256 .f32) (a8 : FVec Ideal S256 .f32)
    (a9 a10 : FVec Ideal S256x256 .f32) (e : Fin 512) (b : Fin 8) :
    fn (F := Ideal) a0 a1 a2 a3 a4 a5 a6 a7 a8 a9 a10 (ix2 e b)
      = IntOp.andi
          (IntOp.cmpi .eq (a1 (ix2 e b))
            (Scalar.select (IntOp.cmpi .eq (BitVec.ofNat 32 e.val) 511#32) 4294967295#32
              (IntOp.addi (BitVec.ofNat 32 e.val) 1#32)))
          (IntOp.cmpi .eq (a2 (ix2 e b))
            (IntOp.cmpi .eq (IntOp.andi (BitVec.ofNat 32 e.val) 1#32) 0#32)) := by
  pointwise [fn, fn_where, id]

/-- Two one-bit words whose conjunction is 1 are both 1. -/
theorem both_one : ∀ v w : BitVec 1, IntOp.andi v w = 1#1 → v = 1#1 ∧ w = 1#1 := by decide

/-- Words that compare equal are equal. -/
theorem eq_of_cmpi {w : ℕ} (x y : BitVec w) (h : IntOp.cmpi .eq x y = 1#1) : x = y := by
  by_contra hne
  have : IntOp.cmpi .eq x y = 0#1 := by
    show BitVec.ofBool (x == y) = 0#1
    rw [beq_eq_false_iff_ne.mpr hne]
    rfl
  rw [this] at h
  exact absurd h (by decide)

/-- The parents of the chain, as words. -/
theorem word_parent : ∀ e : Fin 512,
    Scalar.select (IntOp.cmpi .eq (BitVec.ofNat 32 e.val) 511#32) 4294967295#32 (IntOp.addi (BitVec.ofNat 32 e.val) 1#32)
      = if e.val = 511 then 4294967295#32 else BitVec.ofNat 32 (e.val + 1) := by
  decide +kernel

/-- The sides of the chain, as words. -/
theorem word_side : ∀ e : Fin 512,
    IntOp.cmpi .eq (IntOp.andi (BitVec.ofNat 32 e.val) 1#32) 0#32 = if e.val % 2 = 0 then 1#1 else 0#1 := by
  decide +kernel

/-- Where the precondition holds, the parents and the sides are those of the chain. -/
theorem chain_of_fn (a0 : FVec Ideal S512x8x256 .f32) (a1 : IVec S512x8 32) (a2 : IVec S512x8 1) (a3 : FVec Ideal S768x256 .f32)
    (a4 : FVec Ideal S768 .f32) (a5 a6 : FVec Ideal S768x256 .f32) (a7 : FVec Ideal S256x256 .f32) (a8 : FVec Ideal S256 .f32)
    (a9 a10 : FVec Ideal S256x256 .f32) (h : fn (F := Ideal) a0 a1 a2 a3 a4 a5 a6 a7 a8 a9 a10 = fun _ => 1#1)
    (e : Fin 512) (b : Fin 8) :
    a1 (ix2 e b) = (if e.val = 511 then 4294967295#32 else BitVec.ofNat 32 (e.val + 1))
      ∧ a2 (ix2 e b) = if e.val % 2 = 0 then 1#1 else 0#1 := by
  have hw := both_one _ _ ((fn_apply a0 a1 a2 a3 a4 a5 a6 a7 a8 a9 a10 e b).symm.trans (congrFun h (ix2 e b)))
  exact ⟨(eq_of_cmpi _ _ hw.1).trans (word_parent e), (eq_of_cmpi _ _ hw.2).trans (word_side e)⟩

end Cert.TreeGru

end
-- ==== Proof.Algebraic.lean ====
/- The kernel and the reference compute the same results where the tree is the right-branching chain. -/
module

public import proofs.«01_k».proof.Defs
public import proofs.«01_k».proof.Proof.KernelValue
public import proofs.«01_k».proof.Proof.RefValue
public import proofs.«01_k».proof.Proof.StepRun
public import proofs.«01_k».proof.Proof.Chain

@[expose] public section

set_option maxRecDepth 16384

noncomputable section

namespace Cert.TreeGru

open Idealize.ShloMosaic Idealize.SL.Sem Cert.ReferenceIdeal Cert.ReferenceIdeal.Gen Step

/-- The states that the reference's loop goes through. -/
def states (s : State Ideal) : ℕ → State Ideal
  | 0 => s
  | n + 1 => step n (states s n)

/-- Before its first trip the reference's loop holds the arguments, the chain, and zero rows. -/
theorem after_init (A : Args) (a1 : IVec S512x8 32) (a2 : IVec S512x8 1)
    (h : ∀ (e : Fin 512) (b : Fin 8), a1 (ix2 e b) = (if e.val = 511 then 4294967295#32 else BitVec.ofNat 32 (e.val + 1))
      ∧ a2 (ix2 e b) = if e.val % 2 = 0 then 1#1 else 0#1) :
    After A 0 (init (F := Ideal) A.x a1 a2 A.wg A.bg A.wgl A.wgr A.wc A.bc A.wcl A.wcr) where
  args := ⟨rfl, rfl, rfl, rfl, rfl, rfl, rfl, rfl, rfl⟩
  chain :=
    { last := fun b => (h (Args.node 0) b).1.trans (if_pos rfl)
      parent := fun n hn h0 b => (h (Args.node n) b).1.trans
        ((if_neg (show ¬ 511 - n = 511 by omega)).trans (congrArg (BitVec.ofNat 32) (show 511 - n + 1 = 512 - n by omega)))
      right := fun n hn h2 b => (h (Args.node n) b).2.trans (if_neg (show ¬ (511 - n) % 2 = 0 by omega))
      left := fun n hn h2 b => (h (Args.node n) b).2.trans (if_pos (show (511 - n) % 2 = 0 by omega)) }
  rows := fun e b k => rows_init e b k

/-- The idealized kernel and the idealized reference, from the same arguments of which the precondition holds, end with the
    same two results: the hidden state of every node, and zero. -/
theorem algebraic :
    Cert.algebraic_KernelIdeal_ReferenceIdeal_pre_right_branching (hKernelIdeal := Cert.KernelIdeal.Gen.facts)
      (hReferenceIdeal := Cert.ReferenceIdeal.Gen.facts) (hPre_right_branching := chain_facts) := by
  intro m g m' g' hpre hargs
  refine ⟨fun c => (kargs m c).out, fun _ => (fun _ => (0 : EReal)), run_kernel m g, ?_⟩
  have hA : ∀ c : Dev nD, After (kargs m c) 512
      (states (Cert.TreeGru.StepRun.initState (F := Ideal) m' c) 512) := fun c => by
    refine after_iter (states (Cert.TreeGru.StepRun.initState (F := Ideal) m' c)) ?_ (fun _ => rfl) 512 le_rfl
    obtain ⟨e0, e1, e2, e3, e4, e5, e6, e7, e8, e9, e10⟩ := hargs c
    show After (kargs m c) 0 (init (F := Ideal) _ _ _ _ _ _ _ _ _ _ _)
    rw [e0, e1, e2, e3, e4, e5, e6, e7, e8, e9, e10]
    exact after_init (kargs m c) _ _ (chain_of_fn _ _ _ _ _ _ _ _ _ _ _ (hpre c))
  exact (θ_run _ _ _).mono (fun r h c =>
      ⟨(h c).1.trans (result (hA c)), (h c).2.1.trans (result_zero _), (h c).2.2⟩)
    (Cert.TreeGru.StepRun.run_iter (F := Ideal) m' g'
      (fun c => states (Cert.TreeGru.StepRun.initState (F := Ideal) m' c)) (fun _ => rfl) (fun _ _ => rfl))

end Cert.TreeGru

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Lib.Quiescent

@[expose] public section

noncomputable section

namespace Cert.Proof

open Idealize.ShloMosaic Idealize.SL.Sem

/-- The idealized reference terminates, nothing faults, its arguments end unchanged, and every semaphore counter reads zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.TreeGru.chain_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Cert.TreeGru.algebraic⟩

end Cert.Proof

end
